-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_four_per_lane_KernelIdeal [hPre_four_per_lane_KernelIdeal : Cert.Pre_four_per_lane_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_four_per_lane_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_four_per_lane_ReferenceIdeal [hPre_four_per_lane_ReferenceIdeal : Cert.Pre_four_per_lane_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_four_per_lane_ReferenceIdeal.fn (F := Ideal) (m ((c.tc : Thread Cert.ReferenceIdeal.nD Cert.ReferenceIdeal.τ).loc Cert.ReferenceIdeal.main_arg0))) = (fun _ => 1#1)

def Pre_ReferenceIdeal_tie_free [hPre_tie_free : Cert.Pre_tie_free.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tie_free.fn (F := Ideal) (m ((c.tc : Thread Cert.ReferenceIdeal.nD Cert.ReferenceIdeal.τ).loc Cert.ReferenceIdeal.main_arg0))) = (fun _ => 1#1)

def Pre_TiesIdeal (m : (ℓ : Loc Cert.TiesIdeal.nD Cert.TiesIdeal.τ Cert.TiesIdeal.sig) → Buf (Elt Ideal) ℓ) : Prop :=
  True

def Pre_TiesIdeal_tie_free [hPre_tie_free : Cert.Pre_tie_free.Facts] (m : (ℓ : Loc Cert.TiesIdeal.nD Cert.TiesIdeal.τ Cert.TiesIdeal.sig) → Buf (Elt Ideal) ℓ) : Prop :=
  ∀ c : Dev Cert.TiesIdeal.nD,
    (Cert.Pre_tie_free.fn (F := Ideal) (m ((c.tc : Thread Cert.TiesIdeal.nD Cert.TiesIdeal.τ).loc Cert.TiesIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_four_per_lane_KernelIdeal [hKernelIdeal : Cert.KernelIdeal.Facts] [hPre_four_per_lane_KernelIdeal : Cert.Pre_four_per_lane_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_four_per_lane_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_four_per_lane_ReferenceIdeal [hReferenceIdeal : Cert.ReferenceIdeal.Facts] [hPre_four_per_lane_ReferenceIdeal : Cert.Pre_four_per_lane_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_four_per_lane_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_tie_free [hReferenceIdeal : Cert.ReferenceIdeal.Facts] [hPre_tie_free : Cert.Pre_tie_free.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tie_free m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_TiesIdeal [hTiesIdeal : Cert.TiesIdeal.Facts] : Prop :=
  ∀ (m : (ℓ : Loc Cert.TiesIdeal.nD Cert.TiesIdeal.τ Cert.TiesIdeal.sig) → Buf (Elt Ideal) ℓ) (g : Dev Cert.TiesIdeal.nD → PrngReg), Pre_TiesIdeal m →
    θ_run (Cert.TiesIdeal.defs (F := Ideal)) (onTc (τ := Cert.TiesIdeal.τ) (Cert.TiesIdeal.main (F := Ideal))) ⟨m, fun _ => 0, g⟩ (fun r => (∀ c : Dev Cert.TiesIdeal.nD,
      r.2.mem ((c.tc : Thread Cert.TiesIdeal.nD Cert.TiesIdeal.τ).loc Cert.TiesIdeal.main_arg0) = m ((c.tc : Thread Cert.TiesIdeal.nD Cert.TiesIdeal.τ).loc Cert.TiesIdeal.main_arg0))
      ∧ r.2.sem = fun _ => 0)

def quiescent_TiesIdeal_pre_tie_free [hTiesIdeal : Cert.TiesIdeal.Facts] [hPre_tie_free : Cert.Pre_tie_free.Facts] : Prop :=
  ∀ (m : (ℓ : Loc Cert.TiesIdeal.nD Cert.TiesIdeal.τ Cert.TiesIdeal.sig) → Buf (Elt Ideal) ℓ) (g : Dev Cert.TiesIdeal.nD → PrngReg), Pre_TiesIdeal_tie_free m →
    θ_run (Cert.TiesIdeal.defs (F := Ideal)) (onTc (τ := Cert.TiesIdeal.τ) (Cert.TiesIdeal.main (F := Ideal))) ⟨m, fun _ => 0, g⟩ (fun r => (∀ c : Dev Cert.TiesIdeal.nD,
      r.2.mem ((c.tc : Thread Cert.TiesIdeal.nD Cert.TiesIdeal.τ).loc Cert.TiesIdeal.main_arg0) = m ((c.tc : Thread Cert.TiesIdeal.nD Cert.TiesIdeal.τ).loc Cert.TiesIdeal.main_arg0))
      ∧ r.2.sem = fun _ => 0)

def preserves_Kernel_KernelIdeal : Prop :=
  IdealRules.named_const.Statement Cert.KernelIdeal.κ "neg_inf" .f32 0xFF61B1E6#32 ⊥

def algebraic_KernelIdeal_ReferenceIdeal_pre_four_per_lane_KernelIdeal [hKernelIdeal : Cert.KernelIdeal.Facts] [hReferenceIdeal : Cert.ReferenceIdeal.Facts] [hPre_four_per_lane_KernelIdeal : Cert.Pre_four_per_lane_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_four_per_lane_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 16384]⟩ (Layout.meshBlock [2, 2, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_ReferenceIdeal_TiesIdeal_pre_tie_free [hReferenceIdeal : Cert.ReferenceIdeal.Facts] [hTiesIdeal : Cert.TiesIdeal.Facts] [hPre_tie_free : Cert.Pre_tie_free.Facts] : Prop :=
  ∀ (m : (ℓ : Loc Cert.ReferenceIdeal.nD Cert.ReferenceIdeal.τ Cert.ReferenceIdeal.sig) → Buf (Elt Ideal) ℓ) (g : Dev Cert.ReferenceIdeal.nD → PrngReg)
    (m' : (ℓ : Loc Cert.TiesIdeal.nD Cert.TiesIdeal.τ Cert.TiesIdeal.sig) → Buf (Elt Ideal) ℓ) (g' : Dev Cert.TiesIdeal.nD → PrngReg), Pre_ReferenceIdeal_tie_free m →
    (∀ c : Dev Cert.ReferenceIdeal.nD,
      m' ((c.tc : Thread Cert.TiesIdeal.nD Cert.TiesIdeal.τ).loc Cert.TiesIdeal.main_arg0) = m ((c.tc : Thread Cert.ReferenceIdeal.nD Cert.ReferenceIdeal.τ).loc Cert.ReferenceIdeal.main_arg0)) →
    ∃ (v0 : (c : Dev Cert.ReferenceIdeal.nD) → Buf (Elt Ideal) ((c.tc : Thread Cert.ReferenceIdeal.nD Cert.ReferenceIdeal.τ).loc Cert.ReferenceIdeal.main_v10)),
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ θ_run (Cert.TiesIdeal.defs (F := Ideal)) (onTc (τ := Cert.TiesIdeal.τ) (Cert.TiesIdeal.main (F := Ideal))) ⟨m', fun _ => 0, g'⟩ (fun r => ∀ c : Dev Cert.TiesIdeal.nD,
          r.2.mem ((c.tc : Thread Cert.TiesIdeal.nD Cert.TiesIdeal.τ).loc Cert.TiesIdeal.main_v3) = v0 c
          ∧ r.2.mem ((c.tc : Thread Cert.TiesIdeal.nD Cert.TiesIdeal.τ).loc Cert.TiesIdeal.main_arg0) = m' ((c.tc : Thread Cert.TiesIdeal.nD Cert.TiesIdeal.τ).loc Cert.TiesIdeal.main_arg0))

def Claim : Prop :=
  ∃ (hKernel : Cert.Kernel.Facts) (hKernelIdeal : Cert.KernelIdeal.Facts) (hReferenceIdeal : Cert.ReferenceIdeal.Facts) (hTiesIdeal : Cert.TiesIdeal.Facts) (hPre_four_per_lane_KernelIdeal : Cert.Pre_four_per_lane_KernelIdeal.Facts) (hPre_four_per_lane_ReferenceIdeal : Cert.Pre_four_per_lane_ReferenceIdeal.Facts) (hPre_tie_free : Cert.Pre_tie_free.Facts),
    quiescent_Kernel (hKernel := hKernel)
    ∧ quiescent_KernelIdeal (hKernelIdeal := hKernelIdeal)
    ∧ quiescent_KernelIdeal_pre_four_per_lane_KernelIdeal (hKernelIdeal := hKernelIdeal) (hPre_four_per_lane_KernelIdeal := hPre_four_per_lane_KernelIdeal)
    ∧ quiescent_ReferenceIdeal (hReferenceIdeal := hReferenceIdeal)
    ∧ quiescent_ReferenceIdeal_pre_four_per_lane_ReferenceIdeal (hReferenceIdeal := hReferenceIdeal) (hPre_four_per_lane_ReferenceIdeal := hPre_four_per_lane_ReferenceIdeal)
    ∧ quiescent_ReferenceIdeal_pre_tie_free (hReferenceIdeal := hReferenceIdeal) (hPre_tie_free := hPre_tie_free)
    ∧ quiescent_TiesIdeal (hTiesIdeal := hTiesIdeal)
    ∧ quiescent_TiesIdeal_pre_tie_free (hTiesIdeal := hTiesIdeal) (hPre_tie_free := hPre_tie_free)
    ∧ preserves_Kernel_KernelIdeal
    ∧ algebraic_KernelIdeal_ReferenceIdeal_pre_four_per_lane_KernelIdeal (hKernelIdeal := hKernelIdeal) (hReferenceIdeal := hReferenceIdeal) (hPre_four_per_lane_KernelIdeal := hPre_four_per_lane_KernelIdeal)
    ∧ algebraic_ReferenceIdeal_TiesIdeal_pre_tie_free (hReferenceIdeal := hReferenceIdeal) (hTiesIdeal := hTiesIdeal) (hPre_tie_free := hPre_tie_free)
-- ==== Pre_four_per_lane_KernelIdeal.lean ====
abbrev S512x4096 : Shape := ⟨2, ![512, 4096]⟩
abbrev S512x32x128 : Shape := ⟨3, ![512, 32, 128]⟩
abbrev S_ : Shape := ⟨0, ![]⟩
abbrev S512x128 : Shape := ⟨2, ![512, 128]⟩
abbrev S512x1x128 : Shape := ⟨3, ![512, 1, 128]⟩
abbrev S512 : Shape := ⟨1, ![512]⟩
abbrev S512x1 : Shape := ⟨2, ![512, 1]⟩

class Facts : Prop where
  shapeCasts_S512x4096_S512x32x128 : S512x4096.ShapeCasts S512x32x128
  reducesTo_S512x32x128_S512x128_d1 : S512x32x128.ReducesTo [1] S512x128
  h_S_ : 0 < S_.numel
  bcast_S512x128_S512x1x128_0_2 : S512x128.BroadcastsInDim S512x1x128 (![0, 2] : Fin 2 → Fin S512x1x128.rank)
  bcast_S512x1x128_S512x32x128_0_1_2 : S512x1x128.BroadcastsInDim S512x32x128 (![0, 1, 2] : Fin 3 → Fin S512x32x128.rank)
  bcast_S_S512x32x128 : S_.BroadcastsInDim S512x32x128 (![] : Fin 0 → Fin S512x32x128.rank)
  shapeCasts_S512x1x128_S512x128 : S512x1x128.ShapeCasts S512x128
  reducesTo_S512x4096_S512_d1 : S512x4096.ReducesTo [1] S512
  bcast_S512_S512x1_0 : S512.BroadcastsInDim S512x1 (![0] : Fin 1 → Fin S512x1.rank)
  bcast_S512x1_S512x4096_0_1 : S512x1.BroadcastsInDim S512x4096 (![0, 1] : Fin 2 → Fin S512x4096.rank)
  bcast_S_S512x4096 : S_.BroadcastsInDim S512x4096 (![] : Fin 0 → Fin S512x4096.rank)
  bcast_S512x1_S512x128_0_1 : S512x1.BroadcastsInDim S512x128 (![0, 1] : Fin 2 → Fin S512x128.rank)
  bcast_S_S512x128 : S_.BroadcastsInDim S512x128 (![] : Fin 0 → Fin S512x128.rank)

variable [Facts]

def fn_where {F : FTy → Type} [FloatOps F] (arg0 : IVec S512x32x128 1) (arg1 : FVec F S512x32x128 .f32) (arg2 : FVec F S_ .f32) : FVec F S512x32x128 .f32 :=
  let v0 : FVec F S_ .f32 := id arg2
  let v1 : FVec F S512x32x128 .f32 := broadcastInDim S512x32x128 ![] bcast_S_S512x32x128 v0
  let v2 : FVec F S512x32x128 .f32 := select arg0 arg1 v1
  v2

def fn_where_0 {F : FTy → Type} [FloatOps F] (arg0 : IVec S512x4096 1) (arg1 : FVec F S512x4096 .f32) (arg2 : FVec F S_ .f32) : FVec F S512x4096 .f32 :=
  let v0 : FVec F S_ .f32 := id arg2
  let v1 : FVec F S512x4096 .f32 := broadcastInDim S512x4096 ![] bcast_S_S512x4096 v0
  let v2 : FVec F S512x4096 .f32 := select arg0 arg1 v1
  v2

def fn_part6 {F : FTy → Type} [FloatOps F] (main_v23 : FVec F S512x128 .f32) (main_v102 : IVec S512x128 1) (main_cst_39 : FVec F S_ .f32) : IVec S512x128 1 :=
  let main_v103 : FVec F S512x128 .f32 := broadcastInDim S512x128 ![] bcast_S_S512x128 main_cst_39
  let main_v104 : IVec S512x128 1 := cmpf .oeq main_v23 main_v103
  let main_v105 : IVec S512x128 1 := ori main_v102 main_v104
  main_v105

def fn_part5 {F : FTy → Type} [FloatOps F] (main_arg0 : FVec F S512x4096 .f32) (main_v23 : FVec F S512x128 .f32) (main_v85 : FVec F S512x1 .f32) : IVec S512x128 1 :=
  let main_v86 : FVec F S512x4096 .f32 := broadcastInDim S512x4096 ![0, 1] bcast_S512x1_S512x4096_0_1 main_v85
  let main_v87 : IVec S512x4096 1 := cmpf .olt main_arg0 main_v86
  let main_cst_33 : FVec F S_ .f32 := constant S_ .f32 0xFF800000#32
  let main_v88 : FVec F S512x4096 .f32 := fn_where_0 (F := F) main_v87 main_arg0 main_cst_33
  let main_cst_34 : FVec F S_ .f32 := constant S_ .f32 0xFF800000#32
  let main_v89 : FVec F S512 .f32 := (fun x v => Host.reduce FloatOps.maximumf x v reducesTo_S512x4096_S512_d1 h_S_) main_v88 main_cst_34
  let main_v90 : FVec F S512x1 .f32 := broadcastInDim S512x1 ![0] bcast_S512_S512x1_0 main_v89
  let main_v91 : FVec F S512x4096 .f32 := broadcastInDim S512x4096 ![0, 1] bcast_S512x1_S512x4096_0_1 main_v90
  let main_v92 : IVec S512x4096 1 := cmpf .olt main_arg0 main_v91
  let main_cst_35 : FVec F S_ .f32 := constant S_ .f32 0xFF800000#32
  let main_v93 : FVec F S512x4096 .f32 := fn_where_0 (F := F) main_v92 main_arg0 main_cst_35
  let main_cst_36 : FVec F S_ .f32 := constant S_ .f32 0xFF800000#32
  let main_v94 : FVec F S512 .f32 := (fun x v => Host.reduce FloatOps.maximumf x v reducesTo_S512x4096_S512_d1 h_S_) main_v93 main_cst_36
  let main_v95 : FVec F S512x1 .f32 := broadcastInDim S512x1 ![0] bcast_S512_S512x1_0 main_v94
  let main_v96 : FVec F S512x4096 .f32 := broadcastInDim S512x4096 ![0, 1] bcast_S512x1_S512x4096_0_1 main_v95
  let main_v97 : IVec S512x4096 1 := cmpf .olt main_arg0 main_v96
  let main_cst_37 : FVec F S_ .f32 := constant S_ .f32 0xFF800000#32
  let main_v98 : FVec F S512x4096 .f32 := fn_where_0 (F := F) main_v97 main_arg0 main_cst_37
  let main_cst_38 : FVec F S_ .f32 := constant S_ .f32 0xFF800000#32
  let main_v99 : FVec F S512 .f32 := (fun x v => Host.reduce FloatOps.maximumf x v reducesTo_S512x4096_S512_d1 h_S_) main_v98 main_cst_38
  let main_v100 : FVec F S512x1 .f32 := broadcastInDim S512x1 ![0] bcast_S512_S512x1_0 main_v99
  let main_v101 : FVec F S512x128 .f32 := broadcastInDim S512x128 ![0, 1] bcast_S512x1_S512x128_0_1 main_v100
  let main_v102 : IVec S512x128 1 := cmpf .olt main_v23 main_v101
  let main_cst_39 : FVec F S_ .f32 := constant S_ .f32 0xFF800000#32
  fn_part6 (F := F) main_v23 main_v102 main_cst_39

def fn_part4 {F : FTy → Type} [FloatOps F] (main_arg0 : FVec F S512x4096 .f32) (main_v23 : FVec F S512x128 .f32) (main_v68 : FVec F S512x4096 .f32) : IVec S512x128 1 :=
  let main_cst_26 : FVec F S_ .f32 := constant S_ .f32 0xFF800000#32
  let main_v69 : FVec F S512 .f32 := (fun x v => Host.reduce FloatOps.maximumf x v reducesTo_S512x4096_S512_d1 h_S_) main_v68 main_cst_26
  let main_v70 : FVec F S512x1 .f32 := broadcastInDim S512x1 ![0] bcast_S512_S512x1_0 main_v69
  let main_v71 : FVec F S512x4096 .f32 := broadcastInDim S512x4096 ![0, 1] bcast_S512x1_S512x4096_0_1 main_v70
  let main_v72 : IVec S512x4096 1 := cmpf .olt main_arg0 main_v71
  let main_cst_27 : FVec F S_ .f32 := constant S_ .f32 0xFF800000#32
  let main_v73 : FVec F S512x4096 .f32 := fn_where_0 (F := F) main_v72 main_arg0 main_cst_27
  let main_cst_28 : FVec F S_ .f32 := constant S_ .f32 0xFF800000#32
  let main_v74 : FVec F S512 .f32 := (fun x v => Host.reduce FloatOps.maximumf x v reducesTo_S512x4096_S512_d1 h_S_) main_v73 main_cst_28
  let main_v75 : FVec F S512x1 .f32 := broadcastInDim S512x1 ![0] bcast_S512_S512x1_0 main_v74
  let main_v76 : FVec F S512x4096 .f32 := broadcastInDim S512x4096 ![0, 1] bcast_S512x1_S512x4096_0_1 main_v75
  let main_v77 : IVec S512x4096 1 := cmpf .olt main_arg0 main_v76
  let main_cst_29 : FVec F S_ .f32 := constant S_ .f32 0xFF800000#32
  let main_v78 : FVec F S512x4096 .f32 := fn_where_0 (F := F) main_v77 main_arg0 main_cst_29
  let main_cst_30 : FVec F S_ .f32 := constant S_ .f32 0xFF800000#32
  let main_v79 : FVec F S512 .f32 := (fun x v => Host.reduce FloatOps.maximumf x v reducesTo_S512x4096_S512_d1 h_S_) main_v78 main_cst_30
  let main_v80 : FVec F S512x1 .f32 := broadcastInDim S512x1 ![0] bcast_S512_S512x1_0 main_v79
  let main_v81 : FVec F S512x4096 .f32 := broadcastInDim S512x4096 ![0, 1] bcast_S512x1_S512x4096_0_1 main_v80
  let main_v82 : IVec S512x4096 1 := cmpf .olt main_arg0 main_v81
  let main_cst_31 : FVec F S_ .f32 := constant S_ .f32 0xFF800000#32
  let main_v83 : FVec F S512x4096 .f32 := fn_where_0 (F := F) main_v82 main_arg0 main_cst_31
  let main_cst_32 : FVec F S_ .f32 := constant S_ .f32 0xFF800000#32
  let main_v84 : FVec F S512 .f32 := (fun x v => Host.reduce FloatOps.maximumf x v reducesTo_S512x4096_S512_d1 h_S_) main_v83 main_cst_32
  let main_v85 : FVec F S512x1 .f32 := broadcastInDim S512x1 ![0] bcast_S512_S512x1_0 main_v84
  fn_part5 (F := F) main_arg0 main_v23 main_v85

def fn_part3 {F : FTy → Type} [FloatOps F] (main_arg0 : FVec F S512x4096 .f32) (main_v23 : FVec F S512x128 .f32) (main_v51 : FVec F S512x4096 .f32) : IVec S512x128 1 :=
  let main_v52 : IVec S512x4096 1 := cmpf .olt main_arg0 main_v51
  let main_cst_19 : FVec F S_ .f32 := constant S_ .f32 0xFF800000#32
  let main_v53 : FVec F S512x4096 .f32 := fn_where_0 (F := F) main_v52 main_arg0 main_cst_19
  let main_cst_20 : FVec F S_ .f32 := constant S_ .f32 0xFF800000#32
  let main_v54 : FVec F S512 .f32 := (fun x v => Host.reduce FloatOps.maximumf x v reducesTo_S512x4096_S512_d1 h_S_) main_v53 main_cst_20
  let main_v55 : FVec F S512x1 .f32 := broadcastInDim S512x1 ![0] bcast_S512_S512x1_0 main_v54
  let main_v56 : FVec F S512x4096 .f32 := broadcastInDim S512x4096 ![0, 1] bcast_S512x1_S512x4096_0_1 main_v55
  let main_v57 : IVec S512x4096 1 := cmpf .olt main_arg0 main_v56
  let main_cst_21 : FVec F S_ .f32 := constant S_ .f32 0xFF800000#32
  let main_v58 : FVec F S512x4096 .f32 := fn_where_0 (F := F) main_v57 main_arg0 main_cst_21
  let main_cst_22 : FVec F S_ .f32 := constant S_ .f32 0xFF800000#32
  let main_v59 : FVec F S512 .f32 := (fun x v => Host.reduce FloatOps.maximumf x v reducesTo_S512x4096_S512_d1 h_S_) main_v58 main_cst_22
  let main_v60 : FVec F S512x1 .f32 := broadcastInDim S512x1 ![0] bcast_S512_S512x1_0 main_v59
  let main_v61 : FVec F S512x4096 .f32 := broadcastInDim S512x4096 ![0, 1] bcast_S512x1_S512x4096_0_1 main_v60
  let main_v62 : IVec S512x4096 1 := cmpf .olt main_arg0 main_v61
  let main_cst_23 : FVec F S_ .f32 := constant S_ .f32 0xFF800000#32
  let main_v63 : FVec F S512x4096 .f32 := fn_where_0 (F := F) main_v62 main_arg0 main_cst_23
  let main_cst_24 : FVec F S_ .f32 := constant S_ .f32 0xFF800000#32
  let main_v64 : FVec F S512 .f32 := (fun x v => Host.reduce FloatOps.maximumf x v reducesTo_S512x4096_S512_d1 h_S_) main_v63 main_cst_24
  let main_v65 : FVec F S512x1 .f32 := broadcastInDim S512x1 ![0] bcast_S512_S512x1_0 main_v64
  let main_v66 : FVec F S512x4096 .f32 := broadcastInDim S512x4096 ![0, 1] bcast_S512x1_S512x4096_0_1 main_v65
  let main_v67 : IVec S512x4096 1 := cmpf .olt main_arg0 main_v66
  let main_cst_25 : FVec F S_ .f32 := constant S_ .f32 0xFF800000#32
  let main_v68 : FVec F S512x4096 .f32 := fn_where_0 (F := F) main_v67 main_arg0 main_cst_25
  fn_part4 (F := F) main_arg0 main_v23 main_v68

def fn_part2 {F : FTy → Type} [FloatOps F] (main_arg0 : FVec F S512x4096 .f32) (main_v23 : FVec F S512x128 .f32) (main_v33 : FVec F S512x4096 .f32) (main_cst_12 : FVec F S_ .f32) : IVec S512x128 1 :=
  let main_v34 : FVec F S512 .f32 := (fun x v => Host.reduce FloatOps.maximumf x v reducesTo_S512x4096_S512_d1 h_S_) main_v33 main_cst_12
  let main_v35 : FVec F S512x1 .f32 := broadcastInDim S512x1 ![0] bcast_S512_S512x1_0 main_v34
  let main_v36 : FVec F S512x4096 .f32 := broadcastInDim S512x4096 ![0, 1] bcast_S512x1_S512x4096_0_1 main_v35
  let main_v37 : IVec S512x4096 1 := cmpf .olt main_arg0 main_v36
  let main_cst_13 : FVec F S_ .f32 := constant S_ .f32 0xFF800000#32
  let main_v38 : FVec F S512x4096 .f32 := fn_where_0 (F := F) main_v37 main_arg0 main_cst_13
  let main_cst_14 : FVec F S_ .f32 := constant S_ .f32 0xFF800000#32
  let main_v39 : FVec F S512 .f32 := (fun x v => Host.reduce FloatOps.maximumf x v reducesTo_S512x4096_S512_d1 h_S_) main_v38 main_cst_14
  let main_v40 : FVec F S512x1 .f32 := broadcastInDim S512x1 ![0] bcast_S512_S512x1_0 main_v39
  let main_v41 : FVec F S512x4096 .f32 := broadcastInDim S512x4096 ![0, 1] bcast_S512x1_S512x4096_0_1 main_v40
  let main_v42 : IVec S512x4096 1 := cmpf .olt main_arg0 main_v41
  let main_cst_15 : FVec F S_ .f32 := constant S_ .f32 0xFF800000#32
  let main_v43 : FVec F S512x4096 .f32 := fn_where_0 (F := F) main_v42 main_arg0 main_cst_15
  let main_cst_16 : FVec F S_ .f32 := constant S_ .f32 0xFF800000#32
  let main_v44 : FVec F S512 .f32 := (fun x v => Host.reduce FloatOps.maximumf x v reducesTo_S512x4096_S512_d1 h_S_) main_v43 main_cst_16
  let main_v45 : FVec F S512x1 .f32 := broadcastInDim S512x1 ![0] bcast_S512_S512x1_0 main_v44
  let main_v46 : FVec F S512x4096 .f32 := broadcastInDim S512x4096 ![0, 1] bcast_S512x1_S512x4096_0_1 main_v45
  let main_v47 : IVec S512x4096 1 := cmpf .olt main_arg0 main_v46
  let main_cst_17 : FVec F S_ .f32 := constant S_ .f32 0xFF800000#32
  let main_v48 : FVec F S512x4096 .f32 := fn_where_0 (F := F) main_v47 main_arg0 main_cst_17
  let main_cst_18 : FVec F S_ .f32 := constant S_ .f32 0xFF800000#32
  let main_v49 : FVec F S512 .f32 := (fun x v => Host.reduce FloatOps.maximumf x v reducesTo_S512x4096_S512_d1 h_S_) main_v48 main_cst_18
  let main_v50 : FVec F S512x1 .f32 := broadcastInDim S512x1 ![0] bcast_S512_S512x1_0 main_v49
  let main_v51 : FVec F S512x4096 .f32 := broadcastInDim S512x4096 ![0, 1] bcast_S512x1_S512x4096_0_1 main_v50
  fn_part3 (F := F) main_arg0 main_v23 main_v51

def fn_part1 {F : FTy → Type} [FloatOps F] (main_arg0 : FVec F S512x4096 .f32) (main_v0 : FVec F S512x32x128 .f32) (main_v16 : FVec F S512x128 .f32) : IVec S512x128 1 :=
  let main_v17 : FVec F S512x1x128 .f32 := broadcastInDim S512x1x128 ![0, 2] bcast_S512x128_S512x1x128_0_2 main_v16
  let main_v18 : FVec F S512x32x128 .f32 := broadcastInDim S512x32x128 ![0, 1, 2] bcast_S512x1x128_S512x32x128_0_1_2 main_v17
  let main_v19 : IVec S512x32x128 1 := cmpf .olt main_v0 main_v18
  let main_cst_6 : FVec F S_ .f32 := constant S_ .f32 0xFF800000#32
  let main_v20 : FVec F S512x32x128 .f32 := fn_where (F := F) main_v19 main_v0 main_cst_6
  let main_cst_7 : FVec F S_ .f32 := constant S_ .f32 0xFF800000#32
  let main_v21 : FVec F S512x128 .f32 := (fun x v => Host.reduce FloatOps.maximumf x v reducesTo_S512x32x128_S512x128_d1 h_S_) main_v20 main_cst_7
  let main_v22 : FVec F S512x1x128 .f32 := broadcastInDim S512x1x128 ![0, 2] bcast_S512x128_S512x1x128_0_2 main_v21
  let main_v23 : FVec F S512x128 .f32 := shapeCast S512x128 main_v22 shapeCasts_S512x1x128_S512x128
  let main_cst_8 : FVec F S_ .f32 := constant S_ .f32 0xFF800000#32
  let main_v24 : FVec F S512 .f32 := (fun x v => Host.reduce FloatOps.maximumf x v reducesTo_S512x4096_S512_d1 h_S_) main_arg0 main_cst_8
  let main_v25 : FVec F S512x1 .f32 := broadcastInDim S512x1 ![0] bcast_S512_S512x1_0 main_v24
  let main_v26 : FVec F S512x4096 .f32 := broadcastInDim S512x4096 ![0, 1] bcast_S512x1_S512x4096_0_1 main_v25
  let main_v27 : IVec S512x4096 1 := cmpf .olt main_arg0 main_v26
  let main_cst_9 : FVec F S_ .f32 := constant S_ .f32 0xFF800000#32
  let main_v28 : FVec F S512x4096 .f32 := fn_where_0 (F := F) main_v27 main_arg0 main_cst_9
  let main_cst_10 : FVec F S_ .f32 := constant S_ .f32 0xFF800000#32
  let main_v29 : FVec F S512 .f32 := (fun x v => Host.reduce FloatOps.maximumf x v reducesTo_S512x4096_S512_d1 h_S_) main_v28 main_cst_10
  let main_v30 : FVec F S512x1 .f32 := broadcastInDim S512x1 ![0] bcast_S512_S512x1_0 main_v29
  let main_v31 : FVec F S512x4096 .f32 := broadcastInDim S512x4096 ![0, 1] bcast_S512x1_S512x4096_0_1 main_v30
  let main_v32 : IVec S512x4096 1 := cmpf .olt main_arg0 main_v31
  let main_cst_11 : FVec F S_ .f32 := constant S_ .f32 0xFF800000#32
  let main_v33 : FVec F S512x4096 .f32 := fn_where_0 (F := F) main_v32 main_arg0 main_cst_11
  let main_cst_12 : FVec F S_ .f32 := constant S_ .f32 0xFF800000#32
  fn_part2 (F := F) main_arg0 main_v23 main_v33 main_cst_12

def fn {F : FTy → Type} [FloatOps F] (main_arg0 : FVec F S512x4096 .f32) : IVec S512x128 1 :=
  let main_v0 : FVec F S512x32x128 .f32 := shapeCast S512x32x128 main_arg0 shapeCasts_S512x4096_S512x32x128
  let main_cst : FVec F S_ .f32 := constant S_ .f32 0xFF800000#32
  let main_v1 : FVec F S512x128 .f32 := (fun x v => Host.reduce FloatOps.maximumf x v reducesTo_S512x32x128_S512x128_d1 h_S_) main_v0 main_cst
  let main_v2 : FVec F S512x1x128 .f32 := broadcastInDim S512x1x128 ![0, 2] bcast_S512x128_S512x1x128_0_2 main_v1
  let main_v3 : FVec F S512x32x128 .f32 := broadcastInDim S512x32x128 ![0, 1, 2] bcast_S512x1x128_S512x32x128_0_1_2 main_v2
  let main_v4 : IVec S512x32x128 1 := cmpf .olt main_v0 main_v3
  let main_cst_0 : FVec F S_ .f32 := constant S_ .f32 0xFF800000#32
  let main_v5 : FVec F S512x32x128 .f32 := fn_where (F := F) main_v4 main_v0 main_cst_0
  let main_cst_1 : FVec F S_ .f32 := constant S_ .f32 0xFF800000#32
  let main_v6 : FVec F S512x128 .f32 := (fun x v => Host.reduce FloatOps.maximumf x v reducesTo_S512x32x128_S512x128_d1 h_S_) main_v5 main_cst_1
  let main_v7 : FVec F S512x1x128 .f32 := broadcastInDim S512x1x128 ![0, 2] bcast_S512x128_S512x1x128_0_2 main_v6
  let main_v8 : FVec F S512x32x128 .f32 := broadcastInDim S512x32x128 ![0, 1, 2] bcast_S512x1x128_S512x32x128_0_1_2 main_v7
  let main_v9 : IVec S512x32x128 1 := cmpf .olt main_v0 main_v8
  let main_cst_2 : FVec F S_ .f32 := constant S_ .f32 0xFF800000#32
  let main_v10 : FVec F S512x32x128 .f32 := fn_where (F := F) main_v9 main_v0 main_cst_2
  let main_cst_3 : FVec F S_ .f32 := constant S_ .f32 0xFF800000#32
  let main_v11 : FVec F S512x128 .f32 := (fun x v => Host.reduce FloatOps.maximumf x v reducesTo_S512x32x128_S512x128_d1 h_S_) main_v10 main_cst_3
  let main_v12 : FVec F S512x1x128 .f32 := broadcastInDim S512x1x128 ![0, 2] bcast_S512x128_S512x1x128_0_2 main_v11
  let main_v13 : FVec F S512x32x128 .f32 := broadcastInDim S512x32x128 ![0, 1, 2] bcast_S512x1x128_S512x32x128_0_1_2 main_v12
  let main_v14 : IVec S512x32x128 1 := cmpf .olt main_v0 main_v13
  let main_cst_4 : FVec F S_ .f32 := constant S_ .f32 0xFF800000#32
  let main_v15 : FVec F S512x32x128 .f32 := fn_where (F := F) main_v14 main_v0 main_cst_4
  let main_cst_5 : FVec F S_ .f32 := constant S_ .f32 0xFF800000#32
  let main_v16 : FVec F S512x128 .f32 := (fun x v => Host.reduce FloatOps.maximumf x v reducesTo_S512x32x128_S512x128_d1 h_S_) main_v15 main_cst_5
  fn_part1 (F := F) main_arg0 main_v0 main_v16
-- ==== Pre_four_per_lane_ReferenceIdeal.lean ====
abbrev S512x16384 : Shape := ⟨2, ![512, 16384]⟩
abbrev S512x128x128 : Shape := ⟨3, ![512, 128, 128]⟩
abbrev S_ : Shape := ⟨0, ![]⟩
abbrev S512x128 : Shape := ⟨2, ![512, 128]⟩
abbrev S512x1x128 : Shape := ⟨3, ![512, 1, 128]⟩
abbrev S512 : Shape := ⟨1, ![512]⟩
abbrev S512x1 : Shape := ⟨2, ![512, 1]⟩

class Facts : Prop where
  shapeCasts_S512x16384_S512x128x128 : S512x16384.ShapeCasts S512x128x128
  reducesTo_S512x128x128_S512x128_d1 : S512x128x128.ReducesTo [1] S512x128
  h_S_ : 0 < S_.numel
  bcast_S512x128_S512x1x128_0_2 : S512x128.BroadcastsInDim S512x1x128 (![0, 2] : Fin 2 → Fin S512x1x128.rank)
  bcast_S512x1x128_S512x128x128_0_1_2 : S512x1x128.BroadcastsInDim S512x128x128 (![0, 1, 2] : Fin 3 → Fin S512x128x128.rank)
  bcast_S_S512x128x128 : S_.BroadcastsInDim S512x128x128 (![] : Fin 0 → Fin S512x128x128.rank)
  shapeCasts_S512x1x128_S512x128 : S512x1x128.ShapeCasts S512x128
  reducesTo_S512x16384_S512_d1 : S512x16384.ReducesTo [1] S512
  bcast_S512_S512x1_0 : S512.BroadcastsInDim S512x1 (![0] : Fin 1 → Fin S512x1.rank)
  bcast_S512x1_S512x16384_0_1 : S512x1.BroadcastsInDim S512x16384 (![0, 1] : Fin 2 → Fin S512x16384.rank)
  bcast_S_S512x16384 : S_.BroadcastsInDim S512x16384 (![] : Fin 0 → Fin S512x16384.rank)
  bcast_S512x1_S512x128_0_1 : S512x1.BroadcastsInDim S512x128 (![0, 1] : Fin 2 → Fin S512x128.rank)
  bcast_S_S512x128 : S_.BroadcastsInDim S512x128 (![] : Fin 0 → Fin S512x128.rank)

variable [Facts]

def fn_where {F : FTy → Type} [FloatOps F] (arg0 : IVec S512x128x128 1) (arg1 : FVec F S512x128x128 .f32) (arg2 : FVec F S_ .f32) : FVec F S512x128x128 .f32 :=
  let v0 : FVec F S_ .f32 := id arg2
  let v1 : FVec F S512x128x128 .f32 := broadcastInDim S512x128x128 ![] bcast_S_S512x128x128 v0
  let v2 : FVec F S512x128x128 .f32 := select arg0 arg1 v1
  v2

def fn_where_0 {F : FTy → Type} [FloatOps F] (arg0 : IVec S512x16384 1) (arg1 : FVec F S512x16384 .f32) (arg2 : FVec F S_ .f32) : FVec F S512x16384 .f32 :=
  let v0 : FVec F S_ .f32 := id arg2
  let v1 : FVec F S512x16384 .f32 := broadcastInDim S512x16384 ![] bcast_S_S512x16384 v0
  let v2 : FVec F S512x16384 .f32 := select arg0 arg1 v1
  v2

def fn_part6 {F : FTy → Type} [FloatOps F] (main_v23 : FVec F S512x128 .f32) (main_v102 : IVec S512x128 1) (main_cst_39 : FVec F S_ .f32) : IVec S512x128 1 :=
  let main_v103 : FVec F S512x128 .f32 := broadcastInDim S512x128 ![] bcast_S_S512x128 main_cst_39
  let main_v104 : IVec S512x128 1 := cmpf .oeq main_v23 main_v103
  let main_v105 : IVec S512x128 1 := ori main_v102 main_v104
  main_v105

def fn_part5 {F : FTy → Type} [FloatOps F] (main_arg0 : FVec F S512x16384 .f32) (main_v23 : FVec F S512x128 .f32) (main_v85 : FVec F S512x1 .f32) : IVec S512x128 1 :=
  let main_v86 : FVec F S512x16384 .f32 := broadcastInDim S512x16384 ![0, 1] bcast_S512x1_S512x16384_0_1 main_v85
  let main_v87 : IVec S512x16384 1 := cmpf .olt main_arg0 main_v86
  let main_cst_33 : FVec F S_ .f32 := constant S_ .f32 0xFF800000#32
  let main_v88 : FVec F S512x16384 .f32 := fn_where_0 (F := F) main_v87 main_arg0 main_cst_33
  let main_cst_34 : FVec F S_ .f32 := constant S_ .f32 0xFF800000#32
  let main_v89 : FVec F S512 .f32 := (fun x v => Host.reduce FloatOps.maximumf x v reducesTo_S512x16384_S512_d1 h_S_) main_v88 main_cst_34
  let main_v90 : FVec F S512x1 .f32 := broadcastInDim S512x1 ![0] bcast_S512_S512x1_0 main_v89
  let main_v91 : FVec F S512x16384 .f32 := broadcastInDim S512x16384 ![0, 1] bcast_S512x1_S512x16384_0_1 main_v90
  let main_v92 : IVec S512x16384 1 := cmpf .olt main_arg0 main_v91
  let main_cst_35 : FVec F S_ .f32 := constant S_ .f32 0xFF800000#32
  let main_v93 : FVec F S512x16384 .f32 := fn_where_0 (F := F) main_v92 main_arg0 main_cst_35
  let main_cst_36 : FVec F S_ .f32 := constant S_ .f32 0xFF800000#32
  let main_v94 : FVec F S512 .f32 := (fun x v => Host.reduce FloatOps.maximumf x v reducesTo_S512x16384_S512_d1 h_S_) main_v93 main_cst_36
  let main_v95 : FVec F S512x1 .f32 := broadcastInDim S512x1 ![0] bcast_S512_S512x1_0 main_v94
  let main_v96 : FVec F S512x16384 .f32 := broadcastInDim S512x16384 ![0, 1] bcast_S512x1_S512x16384_0_1 main_v95
  let main_v97 : IVec S512x16384 1 := cmpf .olt main_arg0 main_v96
  let main_cst_37 : FVec F S_ .f32 := constant S_ .f32 0xFF800000#32
  let main_v98 : FVec F S512x16384 .f32 := fn_where_0 (F := F) main_v97 main_arg0 main_cst_37
  let main_cst_38 : FVec F S_ .f32 := constant S_ .f32 0xFF800000#32
  let main_v99 : FVec F S512 .f32 := (fun x v => Host.reduce FloatOps.maximumf x v reducesTo_S512x16384_S512_d1 h_S_) main_v98 main_cst_38
  let main_v100 : FVec F S512x1 .f32 := broadcastInDim S512x1 ![0] bcast_S512_S512x1_0 main_v99
  let main_v101 : FVec F S512x128 .f32 := broadcastInDim S512x128 ![0, 1] bcast_S512x1_S512x128_0_1 main_v100
  let main_v102 : IVec S512x128 1 := cmpf .olt main_v23 main_v101
  let main_cst_39 : FVec F S_ .f32 := constant S_ .f32 0xFF800000#32
  fn_part6 (F := F) main_v23 main_v102 main_cst_39

def fn_part4 {F : FTy → Type} [FloatOps F] (main_arg0 : FVec F S512x16384 .f32) (main_v23 : FVec F S512x128 .f32) (main_v68 : FVec F S512x16384 .f32) : IVec S512x128 1 :=
  let main_cst_26 : FVec F S_ .f32 := constant S_ .f32 0xFF800000#32
  let main_v69 : FVec F S512 .f32 := (fun x v => Host.reduce FloatOps.maximumf x v reducesTo_S512x16384_S512_d1 h_S_) main_v68 main_cst_26
  let main_v70 : FVec F S512x1 .f32 := broadcastInDim S512x1 ![0] bcast_S512_S512x1_0 main_v69
  let main_v71 : FVec F S512x16384 .f32 := broadcastInDim S512x16384 ![0, 1] bcast_S512x1_S512x16384_0_1 main_v70
  let main_v72 : IVec S512x16384 1 := cmpf .olt main_arg0 main_v71
  let main_cst_27 : FVec F S_ .f32 := constant S_ .f32 0xFF800000#32
  let main_v73 : FVec F S512x16384 .f32 := fn_where_0 (F := F) main_v72 main_arg0 main_cst_27
  let main_cst_28 : FVec F S_ .f32 := constant S_ .f32 0xFF800000#32
  let main_v74 : FVec F S512 .f32 := (fun x v => Host.reduce FloatOps.maximumf x v reducesTo_S512x16384_S512_d1 h_S_) main_v73 main_cst_28
  let main_v75 : FVec F S512x1 .f32 := broadcastInDim S512x1 ![0] bcast_S512_S512x1_0 main_v74
  let main_v76 : FVec F S512x16384 .f32 := broadcastInDim S512x16384 ![0, 1] bcast_S512x1_S512x16384_0_1 main_v75
  let main_v77 : IVec S512x16384 1 := cmpf .olt main_arg0 main_v76
  let main_cst_29 : FVec F S_ .f32 := constant S_ .f32 0xFF800000#32
  let main_v78 : FVec F S512x16384 .f32 := fn_where_0 (F := F) main_v77 main_arg0 main_cst_29
  let main_cst_30 : FVec F S_ .f32 := constant S_ .f32 0xFF800000#32
  let main_v79 : FVec F S512 .f32 := (fun x v => Host.reduce FloatOps.maximumf x v reducesTo_S512x16384_S512_d1 h_S_) main_v78 main_cst_30
  let main_v80 : FVec F S512x1 .f32 := broadcastInDim S512x1 ![0] bcast_S512_S512x1_0 main_v79
  let main_v81 : FVec F S512x16384 .f32 := broadcastInDim S512x16384 ![0, 1] bcast_S512x1_S512x16384_0_1 main_v80
  let main_v82 : IVec S512x16384 1 := cmpf .olt main_arg0 main_v81
  let main_cst_31 : FVec F S_ .f32 := constant S_ .f32 0xFF800000#32
  let main_v83 : FVec F S512x16384 .f32 := fn_where_0 (F := F) main_v82 main_arg0 main_cst_31
  let main_cst_32 : FVec F S_ .f32 := constant S_ .f32 0xFF800000#32
  let main_v84 : FVec F S512 .f32 := (fun x v => Host.reduce FloatOps.maximumf x v reducesTo_S512x16384_S512_d1 h_S_) main_v83 main_cst_32
  let main_v85 : FVec F S512x1 .f32 := broadcastInDim S512x1 ![0] bcast_S512_S512x1_0 main_v84
  fn_part5 (F := F) main_arg0 main_v23 main_v85

def fn_part3 {F : FTy → Type} [FloatOps F] (main_arg0 : FVec F S512x16384 .f32) (main_v23 : FVec F S512x128 .f32) (main_v51 : FVec F S512x16384 .f32) : IVec S512x128 1 :=
  let main_v52 : IVec S512x16384 1 := cmpf .olt main_arg0 main_v51
  let main_cst_19 : FVec F S_ .f32 := constant S_ .f32 0xFF800000#32
  let main_v53 : FVec F S512x16384 .f32 := fn_where_0 (F := F) main_v52 main_arg0 main_cst_19
  let main_cst_20 : FVec F S_ .f32 := constant S_ .f32 0xFF800000#32
  let main_v54 : FVec F S512 .f32 := (fun x v => Host.reduce FloatOps.maximumf x v reducesTo_S512x16384_S512_d1 h_S_) main_v53 main_cst_20
  let main_v55 : FVec F S512x1 .f32 := broadcastInDim S512x1 ![0] bcast_S512_S512x1_0 main_v54
  let main_v56 : FVec F S512x16384 .f32 := broadcastInDim S512x16384 ![0, 1] bcast_S512x1_S512x16384_0_1 main_v55
  let main_v57 : IVec S512x16384 1 := cmpf .olt main_arg0 main_v56
  let main_cst_21 : FVec F S_ .f32 := constant S_ .f32 0xFF800000#32
  let main_v58 : FVec F S512x16384 .f32 := fn_where_0 (F := F) main_v57 main_arg0 main_cst_21
  let main_cst_22 : FVec F S_ .f32 := constant S_ .f32 0xFF800000#32
  let main_v59 : FVec F S512 .f32 := (fun x v => Host.reduce FloatOps.maximumf x v reducesTo_S512x16384_S512_d1 h_S_) main_v58 main_cst_22
  let main_v60 : FVec F S512x1 .f32 := broadcastInDim S512x1 ![0] bcast_S512_S512x1_0 main_v59
  let main_v61 : FVec F S512x16384 .f32 := broadcastInDim S512x16384 ![0, 1] bcast_S512x1_S512x16384_0_1 main_v60
  let main_v62 : IVec S512x16384 1 := cmpf .olt main_arg0 main_v61
  let main_cst_23 : FVec F S_ .f32 := constant S_ .f32 0xFF800000#32
  let main_v63 : FVec F S512x16384 .f32 := fn_where_0 (F := F) main_v62 main_arg0 main_cst_23
  let main_cst_24 : FVec F S_ .f32 := constant S_ .f32 0xFF800000#32
  let main_v64 : FVec F S512 .f32 := (fun x v => Host.reduce FloatOps.maximumf x v reducesTo_S512x16384_S512_d1 h_S_) main_v63 main_cst_24
  let main_v65 : FVec F S512x1 .f32 := broadcastInDim S512x1 ![0] bcast_S512_S512x1_0 main_v64
  let main_v66 : FVec F S512x16384 .f32 := broadcastInDim S512x16384 ![0, 1] bcast_S512x1_S512x16384_0_1 main_v65
  let main_v67 : IVec S512x16384 1 := cmpf .olt main_arg0 main_v66
  let main_cst_25 : FVec F S_ .f32 := constant S_ .f32 0xFF800000#32
  let main_v68 : FVec F S512x16384 .f32 := fn_where_0 (F := F) main_v67 main_arg0 main_cst_25
  fn_part4 (F := F) main_arg0 main_v23 main_v68

def fn_part2 {F : FTy → Type} [FloatOps F] (main_arg0 : FVec F S512x16384 .f32) (main_v23 : FVec F S512x128 .f32) (main_v33 : FVec F S512x16384 .f32) (main_cst_12 : FVec F S_ .f32) : IVec S512x128 1 :=
  let main_v34 : FVec F S512 .f32 := (fun x v => Host.reduce FloatOps.maximumf x v reducesTo_S512x16384_S512_d1 h_S_) main_v33 main_cst_12
  let main_v35 : FVec F S512x1 .f32 := broadcastInDim S512x1 ![0] bcast_S512_S512x1_0 main_v34
  let main_v36 : FVec F S512x16384 .f32 := broadcastInDim S512x16384 ![0, 1] bcast_S512x1_S512x16384_0_1 main_v35
  let main_v37 : IVec S512x16384 1 := cmpf .olt main_arg0 main_v36
  let main_cst_13 : FVec F S_ .f32 := constant S_ .f32 0xFF800000#32
  let main_v38 : FVec F S512x16384 .f32 := fn_where_0 (F := F) main_v37 main_arg0 main_cst_13
  let main_cst_14 : FVec F S_ .f32 := constant S_ .f32 0xFF800000#32
  let main_v39 : FVec F S512 .f32 := (fun x v => Host.reduce FloatOps.maximumf x v reducesTo_S512x16384_S512_d1 h_S_) main_v38 main_cst_14
  let main_v40 : FVec F S512x1 .f32 := broadcastInDim S512x1 ![0] bcast_S512_S512x1_0 main_v39
  let main_v41 : FVec F S512x16384 .f32 := broadcastInDim S512x16384 ![0, 1] bcast_S512x1_S512x16384_0_1 main_v40
  let main_v42 : IVec S512x16384 1 := cmpf .olt main_arg0 main_v41
  let main_cst_15 : FVec F S_ .f32 := constant S_ .f32 0xFF800000#32
  let main_v43 : FVec F S512x16384 .f32 := fn_where_0 (F := F) main_v42 main_arg0 main_cst_15
  let main_cst_16 : FVec F S_ .f32 := constant S_ .f32 0xFF800000#32
  let main_v44 : FVec F S512 .f32 := (fun x v => Host.reduce FloatOps.maximumf x v reducesTo_S512x16384_S512_d1 h_S_) main_v43 main_cst_16
  let main_v45 : FVec F S512x1 .f32 := broadcastInDim S512x1 ![0] bcast_S512_S512x1_0 main_v44
  let main_v46 : FVec F S512x16384 .f32 := broadcastInDim S512x16384 ![0, 1] bcast_S512x1_S512x16384_0_1 main_v45
  let main_v47 : IVec S512x16384 1 := cmpf .olt main_arg0 main_v46
  let main_cst_17 : FVec F S_ .f32 := constant S_ .f32 0xFF800000#32
  let main_v48 : FVec F S512x16384 .f32 := fn_where_0 (F := F) main_v47 main_arg0 main_cst_17
  let main_cst_18 : FVec F S_ .f32 := constant S_ .f32 0xFF800000#32
  let main_v49 : FVec F S512 .f32 := (fun x v => Host.reduce FloatOps.maximumf x v reducesTo_S512x16384_S512_d1 h_S_) main_v48 main_cst_18
  let main_v50 : FVec F S512x1 .f32 := broadcastInDim S512x1 ![0] bcast_S512_S512x1_0 main_v49
  let main_v51 : FVec F S512x16384 .f32 := broadcastInDim S512x16384 ![0, 1] bcast_S512x1_S512x16384_0_1 main_v50
  fn_part3 (F := F) main_arg0 main_v23 main_v51

def fn_part1 {F : FTy → Type} [FloatOps F] (main_arg0 : FVec F S512x16384 .f32) (main_v0 : FVec F S512x128x128 .f32) (main_v16 : FVec F S512x128 .f32) : IVec S512x128 1 :=
  let main_v17 : FVec F S512x1x128 .f32 := broadcastInDim S512x1x128 ![0, 2] bcast_S512x128_S512x1x128_0_2 main_v16
  let main_v18 : FVec F S512x128x128 .f32 := broadcastInDim S512x128x128 ![0, 1, 2] bcast_S512x1x128_S512x128x128_0_1_2 main_v17
  let main_v19 : IVec S512x128x128 1 := cmpf .olt main_v0 main_v18
  let main_cst_6 : FVec F S_ .f32 := constant S_ .f32 0xFF800000#32
  let main_v20 : FVec F S512x128x128 .f32 := fn_where (F := F) main_v19 main_v0 main_cst_6
  let main_cst_7 : FVec F S_ .f32 := constant S_ .f32 0xFF800000#32
  let main_v21 : FVec F S512x128 .f32 := (fun x v => Host.reduce FloatOps.maximumf x v reducesTo_S512x128x128_S512x128_d1 h_S_) main_v20 main_cst_7
  let main_v22 : FVec F S512x1x128 .f32 := broadcastInDim S512x1x128 ![0, 2] bcast_S512x128_S512x1x128_0_2 main_v21
  let main_v23 : FVec F S512x128 .f32 := shapeCast S512x128 main_v22 shapeCasts_S512x1x128_S512x128
  let main_cst_8 : FVec F S_ .f32 := constant S_ .f32 0xFF800000#32
  let main_v24 : FVec F S512 .f32 := (fun x v => Host.reduce FloatOps.maximumf x v reducesTo_S512x16384_S512_d1 h_S_) main_arg0 main_cst_8
  let main_v25 : FVec F S512x1 .f32 := broadcastInDim S512x1 ![0] bcast_S512_S512x1_0 main_v24
  let main_v26 : FVec F S512x16384 .f32 := broadcastInDim S512x16384 ![0, 1] bcast_S512x1_S512x16384_0_1 main_v25
  let main_v27 : IVec S512x16384 1 := cmpf .olt main_arg0 main_v26
  let main_cst_9 : FVec F S_ .f32 := constant S_ .f32 0xFF800000#32
  let main_v28 : FVec F S512x16384 .f32 := fn_where_0 (F := F) main_v27 main_arg0 main_cst_9
  let main_cst_10 : FVec F S_ .f32 := constant S_ .f32 0xFF800000#32
  let main_v29 : FVec F S512 .f32 := (fun x v => Host.reduce FloatOps.maximumf x v reducesTo_S512x16384_S512_d1 h_S_) main_v28 main_cst_10
  let main_v30 : FVec F S512x1 .f32 := broadcastInDim S512x1 ![0] bcast_S512_S512x1_0 main_v29
  let main_v31 : FVec F S512x16384 .f32 := broadcastInDim S512x16384 ![0, 1] bcast_S512x1_S512x16384_0_1 main_v30
  let main_v32 : IVec S512x16384 1 := cmpf .olt main_arg0 main_v31
  let main_cst_11 : FVec F S_ .f32 := constant S_ .f32 0xFF800000#32
  let main_v33 : FVec F S512x16384 .f32 := fn_where_0 (F := F) main_v32 main_arg0 main_cst_11
  let main_cst_12 : FVec F S_ .f32 := constant S_ .f32 0xFF800000#32
  fn_part2 (F := F) main_arg0 main_v23 main_v33 main_cst_12

def fn {F : FTy → Type} [FloatOps F] (main_arg0 : FVec F S512x16384 .f32) : IVec S512x128 1 :=
  let main_v0 : FVec F S512x128x128 .f32 := shapeCast S512x128x128 main_arg0 shapeCasts_S512x16384_S512x128x128
  let main_cst : FVec F S_ .f32 := constant S_ .f32 0xFF800000#32
  let main_v1 : FVec F S512x128 .f32 := (fun x v => Host.reduce FloatOps.maximumf x v reducesTo_S512x128x128_S512x128_d1 h_S_) main_v0 main_cst
  let main_v2 : FVec F S512x1x128 .f32 := broadcastInDim S512x1x128 ![0, 2] bcast_S512x128_S512x1x128_0_2 main_v1
  let main_v3 : FVec F S512x128x128 .f32 := broadcastInDim S512x128x128 ![0, 1, 2] bcast_S512x1x128_S512x128x128_0_1_2 main_v2
  let main_v4 : IVec S512x128x128 1 := cmpf .olt main_v0 main_v3
  let main_cst_0 : FVec F S_ .f32 := constant S_ .f32 0xFF800000#32
  let main_v5 : FVec F S512x128x128 .f32 := fn_where (F := F) main_v4 main_v0 main_cst_0
  let main_cst_1 : FVec F S_ .f32 := constant S_ .f32 0xFF800000#32
  let main_v6 : FVec F S512x128 .f32 := (fun x v => Host.reduce FloatOps.maximumf x v reducesTo_S512x128x128_S512x128_d1 h_S_) main_v5 main_cst_1
  let main_v7 : FVec F S512x1x128 .f32 := broadcastInDim S512x1x128 ![0, 2] bcast_S512x128_S512x1x128_0_2 main_v6
  let main_v8 : FVec F S512x128x128 .f32 := broadcastInDim S512x128x128 ![0, 1, 2] bcast_S512x1x128_S512x128x128_0_1_2 main_v7
  let main_v9 : IVec S512x128x128 1 := cmpf .olt main_v0 main_v8
  let main_cst_2 : FVec F S_ .f32 := constant S_ .f32 0xFF800000#32
  let main_v10 : FVec F S512x128x128 .f32 := fn_where (F := F) main_v9 main_v0 main_cst_2
  let main_cst_3 : FVec F S_ .f32 := constant S_ .f32 0xFF800000#32
  let main_v11 : FVec F S512x128 .f32 := (fun x v => Host.reduce FloatOps.maximumf x v reducesTo_S512x128x128_S512x128_d1 h_S_) main_v10 main_cst_3
  let main_v12 : FVec F S512x1x128 .f32 := broadcastInDim S512x1x128 ![0, 2] bcast_S512x128_S512x1x128_0_2 main_v11
  let main_v13 : FVec F S512x128x128 .f32 := broadcastInDim S512x128x128 ![0, 1, 2] bcast_S512x1x128_S512x128x128_0_1_2 main_v12
  let main_v14 : IVec S512x128x128 1 := cmpf .olt main_v0 main_v13
  let main_cst_4 : FVec F S_ .f32 := constant S_ .f32 0xFF800000#32
  let main_v15 : FVec F S512x128x128 .f32 := fn_where (F := F) main_v14 main_v0 main_cst_4
  let main_cst_5 : FVec F S_ .f32 := constant S_ .f32 0xFF800000#32
  let main_v16 : FVec F S512x128 .f32 := (fun x v => Host.reduce FloatOps.maximumf x v reducesTo_S512x128x128_S512x128_d1 h_S_) main_v15 main_cst_5
  fn_part1 (F := F) main_arg0 main_v0 main_v16
-- ==== Pre_tie_free.lean ====
abbrev S512x16384 : Shape := ⟨2, ![512, 16384]⟩
abbrev S512x16383 : Shape := ⟨2, ![512, 16383]⟩

class Facts : Prop where
  slices_S512x16384_S512x16383_0_0 : S512x16384.Slices ![0, 0] S512x16383
  slices_S512x16384_S512x16383_0_1 : S512x16384.Slices ![0, 1] S512x16383

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x16384 .f32) : FVec F S512x16384 .f32 :=
  let v0 : FVec F S512x16384 .f32 := (fun x => Host.sort S512x16384 1 comparator_f32_d1 x) arg0
  v0

def fn {F : FTy → Type} [FloatOps F] (main_arg0 : FVec F S512x16384 .f32) : IVec S512x16383 1 :=
  let main_v0 : FVec F S512x16384 .f32 := fn_sort (F := F) main_arg0
  let main_v1 : FVec F S512x16383 .f32 := (extractStridedSlice S512x16383 ![0, 0] · slices_S512x16384_S512x16383_0_0) main_v0
  let main_v2 : FVec F S512x16383 .f32 := (extractStridedSlice S512x16383 ![0, 1] · slices_S512x16384_S512x16383_0_1) main_v0
  let main_v3 : IVec S512x16383 1 := cmpf .olt main_v1 main_v2
  main_v3
-- ==== Kernel.lean ====
abbrev S512x4096 : Shape := ⟨2, ![512, 4096]⟩
abbrev S512x16 : Shape := ⟨2, ![512, 16]⟩
abbrev S3x512x16 : Shape := ⟨3, ![3, 512, 16]⟩
abbrev S3 : Shape := ⟨1, ![3]⟩
abbrev S_ : Shape := ⟨0, ![]⟩
abbrev S512x32x128 : Shape := ⟨3, ![512, 32, 128]⟩
abbrev S512x128 : Shape := ⟨2, ![512, 128]⟩
abbrev S512x1x128 : Shape := ⟨3, ![512, 1, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512x16 : Shape := ⟨3, ![1, 512, 16]⟩
abbrev S512x64 : Shape := ⟨2, ![512, 64]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S512x16, .f32⟩
  | .local _ .vmem, ⟨3, _⟩ => ⟨S3x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v196 : BitVec 32 := Scalar.muli v2 c8_i32_87
  let v197 : BitVec 32 := Scalar.addi c0_i32_88 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_89 : BitVec 32 := 4#32
  let v198 : BitVec 32 := Scalar.muli v5 c4_i32_89
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v185 : BitVec 32 := Scalar.addi v8 c1_i32_77
  let c4_i32_78 : BitVec 32 := 4#32
  let c0_i32_79 : BitVec 32 := 0#32
  let v186 : BitVec 1 := Scalar.cmpi .eq c4_i32_78 c0_i32_79
  let c1_i32_80 : BitVec 32 := 1#32
  let v187 : BitVec 32 := Scalar.select v186 c1_i32_80 c4_i32_78
  let v188 : BitVec 32 := Scalar.remsi v185 v187
  let c0_i32_82 : BitVec 32 := 0#32
  let v190 : BitVec 1 := Scalar.cmpi .slt v188 c0_i32_82
  let c0_i32_83 : BitVec 32 := 0#32
  let v191 : BitVec 1 := Scalar.cmpi .slt v187 c0_i32_83
  let v192 : BitVec 1 := Scalar.xori v190 v191
  let c0_i32_81 : BitVec 32 := 0#32
  let v189 : BitVec 1 := Scalar.cmpi .ne v188 c0_i32_81
  let v193 : BitVec 1 := Scalar.andi v192 v189
  let v194 : BitVec 32 := Scalar.addi v188 v187
  let v195 : BitVec 32 := Scalar.select v193 v194 v188
  let c1_i32_90 : BitVec 32 := 1#32
  let v200 : BitVec 32 := Scalar.muli v195 c1_i32_90
  let v201 : BitVec 32 := Scalar.addi v199 v200
  v201.toNat
def k0_dev5 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v219 : BitVec 32 := Scalar.muli v2 c8_i32_103
  let v220 : BitVec 32 := Scalar.addi c0_i32_104 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v221 : BitVec 32 := Scalar.muli v5 c4_i32_105
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_93 : BitVec 32 := 2#32
  let v208 : BitVec 32 := Scalar.addi v8 c2_i32_93
  let c4_i32_94 : BitVec 32 := 4#32
  let c0_i32_95 : BitVec 32 := 0#32
  let v209 : BitVec 1 := Scalar.cmpi .eq c4_i32_94 c0_i32_95
  let c1_i32_96 : BitVec 32 := 1#32
  let v210 : BitVec 32 := Scalar.select v209 c1_i32_96 c4_i32_94
  let v211 : BitVec 32 := Scalar.remsi v208 v210
  let c0_i32_98 : BitVec 32 := 0#32
  let v213 : BitVec 1 := Scalar.cmpi .slt v211 c0_i32_98
  let c0_i32_99 : BitVec 32 := 0#32
  let v214 : BitVec 1 := Scalar.cmpi .slt v210 c0_i32_99
  let v215 : BitVec 1 := Scalar.xori v213 v214
  let c0_i32_97 : BitVec 32 := 0#32
  let v212 : BitVec 1 := Scalar.cmpi .ne v211 c0_i32_97
  let v216 : BitVec 1 := Scalar.andi v215 v212
  let v217 : BitVec 32 := Scalar.addi v211 v210
  let v218 : BitVec 32 := Scalar.select v216 v217 v211
  let c1_i32_106 : BitVec 32 := 1#32
  let v223 : BitVec 32 := Scalar.muli v218 c1_i32_106
  let v224 : BitVec 32 := Scalar.addi v222 v223
  v224.toNat
def k0_dev6 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v242 : BitVec 32 := Scalar.muli v2 c8_i32_119
  let v243 : BitVec 32 := Scalar.addi c0_i32_120 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_121 : BitVec 32 := 4#32
  let v244 : BitVec 32 := Scalar.muli v5 c4_i32_121
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v231 : BitVec 32 := Scalar.addi v8 c3_i32_109
  let c4_i32_110 : BitVec 32 := 4#32
  let c0_i32_111 : BitVec 32 := 0#32
  let v232 : BitVec 1 := Scalar.cmpi .eq c4_i32_110 c0_i32_111
  let c1_i32_112 : BitVec 32 := 1#32
  let v233 : BitVec 32 := Scalar.select v232 c1_i32_112 c4_i32_110
  let v234 : BitVec 32 := Scalar.remsi v231 v233
  let c0_i32_114 : BitVec 32 := 0#32
  let v236 : BitVec 1 := Scalar.cmpi .slt v234 c0_i32_114
  let c0_i32_115 : BitVec 32 := 0#32
  let v237 : BitVec 1 := Scalar.cmpi .slt v233 c0_i32_115
  let v238 : BitVec 1 := Scalar.xori v236 v237
  let c0_i32_113 : BitVec 32 := 0#32
  let v235 : BitVec 1 := Scalar.cmpi .ne v234 c0_i32_113
  let v239 : BitVec 1 := Scalar.andi v238 v235
  let v240 : BitVec 32 := Scalar.addi v234 v233
  let v241 : BitVec 32 := Scalar.select v239 v240 v234
  let c1_i32_122 : BitVec 32 := 1#32
  let v246 : BitVec 32 := Scalar.muli v241 c1_i32_122
  let v247 : BitVec 32 := Scalar.addi v245 v246
  v247.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "neg_inf" => some ⊥
  | _ => none
-- ==== ReferenceIdeal.lean ====
abbrev S512x16384 : Shape := ⟨2, ![512, 16384]⟩
abbrev S512x16383 : Shape := ⟨2, ![512, 16383]⟩
abbrev S_ : Shape := ⟨0, ![]⟩
abbrev S512x1 : Shape := ⟨2, ![512, 1]⟩
abbrev S512x16 : Shape := ⟨2, ![512, 16]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16383, .f32⟩
  | .hbm, ⟨3, _⟩ => ⟨S512x16383, .f32⟩
  | .hbm, ⟨4, _⟩ => ⟨S512x16383, .i1⟩
  | .hbm, ⟨5, _⟩ => ⟨S_, .i1⟩
  | .hbm, ⟨6, _⟩ => ⟨S512x1, .i1⟩
  | .hbm, ⟨7, _⟩ => ⟨S512x16384, .i1⟩
  | .hbm, ⟨8, _⟩ => ⟨S_, .f32⟩
  | .hbm, ⟨9, _⟩ => ⟨S_, .f32⟩
  | .hbm, ⟨10, _⟩ => ⟨S512x16384, .f32⟩
  | .hbm, ⟨11, _⟩ => ⟨S512x16384, .f32⟩
  | .hbm, ⟨12, _⟩ => ⟨S512x16384, .f32⟩
  | .hbm, ⟨13, _⟩ => ⟨S512x16384, .i32⟩
  | .hbm, ⟨14, _⟩ => ⟨S512x16384, .f32⟩
  | .hbm, ⟨15, _⟩ => ⟨S512x16384, .i32⟩
  | .hbm, ⟨16, _⟩ => ⟨S512x16, .i32⟩
  | .hbm, ⟨17, _⟩ => ⟨S_, .i32⟩
  | .hbm, ⟨18, _⟩ => ⟨S512x16, .i32⟩
  | .hbm, ⟨19, _⟩ => ⟨S512x16, .i1⟩
  | .hbm, ⟨20, _⟩ => ⟨S_, .i32⟩
  | .hbm, ⟨21, _⟩ => ⟨S512x16, .i32⟩
  | .hbm, ⟨22, _⟩ => ⟨S512x16, .i32⟩
  | .hbm, ⟨23, _⟩ => ⟨S512x16, .i32⟩
  | .hbm, ⟨24, _⟩ => ⟨S512x16x1, .i32⟩
  | .hbm, ⟨25, _⟩ => ⟨S1, .i32⟩
  | .hbm, ⟨26, _⟩ => ⟨S_, .i32⟩
  | .hbm, ⟨27, _⟩ => ⟨S512x16x1, .i32⟩
  | .hbm, ⟨28, _⟩ => ⟨S512x16x1, .i1⟩
  | .hbm, ⟨29, _⟩ => ⟨S1x1x1, .i32⟩
  | .hbm, ⟨30, _⟩ => ⟨S512x16x1, .i32⟩
  | .hbm, ⟨31, _⟩ => ⟨S512x16x1, .i1⟩
  | .hbm, ⟨32, _⟩ => ⟨S512x16x1, .i1⟩
  | .hbm, ⟨33, _⟩ => ⟨S_, .i1⟩
  | .hbm, ⟨34, _⟩ => ⟨S512x16, .i1⟩
  | .hbm, ⟨35, _⟩ => ⟨S512x16, .f32⟩
  | .hbm, ⟨36, _⟩ => ⟨S_, .f32⟩
  | .hbm, ⟨37, _⟩ => ⟨S512x16, .f32⟩
  | .hbm, ⟨38, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v6 : Ref sig .tc := ⟨.hbm, 11, rfl⟩
abbrev main_v7 : Ref sig .tc := ⟨.hbm, 12, rfl⟩
abbrev main_call2_v0 : Ref sig .tc := ⟨.hbm, 13, rfl⟩
abbrev main_call2_v1_0 : Ref sig .tc := ⟨.hbm, 14, rfl⟩
abbrev main_v8 : Ref sig .tc := ⟨.hbm, 15, rfl⟩
abbrev main_v9 : Ref sig .tc := ⟨.hbm, 16, rfl⟩
abbrev main_call3_c : Ref sig .tc := ⟨.hbm, 17, rfl⟩
abbrev main_call3_v0 : Ref sig .tc := ⟨.hbm, 18, rfl⟩
abbrev main_call3_v1 : Ref sig .tc := ⟨.hbm, 19, rfl⟩
abbrev main_call3_c_0 : Ref sig .tc := ⟨.hbm, 20, rfl⟩
abbrev main_call3_v2 : Ref sig .tc := ⟨.hbm, 21, rfl⟩
abbrev main_call3_v3 : Ref sig .tc := ⟨.hbm, 22, rfl⟩
abbrev main_call3_v4 : Ref sig .tc := ⟨.hbm, 23, rfl⟩
abbrev main_call3_v5 : Ref sig .tc := ⟨.hbm, 24, rfl⟩
abbrev main_call3_c_1 : Ref sig .tc := ⟨.hbm, 25, rfl⟩
abbrev main_call3_c_2 : Ref sig .tc := ⟨.hbm, 26, rfl⟩
abbrev main_call3_v6 : Ref sig .tc := ⟨.hbm, 27, rfl⟩
abbrev main_call3_v7 : Ref sig .tc := ⟨.hbm, 28, rfl⟩
abbrev main_call3_v8 : Ref sig .tc := ⟨.hbm, 29, rfl⟩
abbrev main_call3_v9 : Ref sig .tc := ⟨.hbm, 30, rfl⟩
abbrev main_call3_v10 : Ref sig .tc := ⟨.hbm, 31, rfl⟩
abbrev main_call3_v11 : Ref sig .tc := ⟨.hbm, 32, rfl⟩
abbrev main_call3_c_3 : Ref sig .tc := ⟨.hbm, 33, rfl⟩
abbrev main_call3_v12 : Ref sig .tc := ⟨.hbm, 34, rfl⟩
abbrev main_call3_v13 : Ref sig .tc := ⟨.hbm, 35, rfl⟩
abbrev main_call3_cst : Ref sig .tc := ⟨.hbm, 36, rfl⟩
abbrev main_call3_v14 : Ref sig .tc := ⟨.hbm, 37, rfl⟩
abbrev main_v10 : Ref sig .tc := ⟨.hbm, 38, rfl⟩

abbrev nD : Nat := 1
abbrev τ : Topo := Topo.v7x

variable {F : FTy → Type} [FloatOps F]
-- ==== TiesIdeal.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16384, .i32⟩
  | .hbm, ⟨3, _⟩ => ⟨S512x16384, .f32⟩
  | .hbm, ⟨4, _⟩ => ⟨S512x16384, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
# The kernel's protocol

Sixteen devices on a mesh 2 × 2 × 4; device `c` talks to the three others of its group of four along the last axis.
`pe i c` is the device `i + 1` places further round that group.

 * Each device signals the barrier semaphore of the three others, one unit each, and waits for three units on its own.
   Device `c`'s signal to `pe i c` hands that device slot `i` of `c`'s receive buffer.
 * Each device copies its send buffer to the three others: the copy to `pe i c` lands in slot `2 - i` there, counts on the
   send semaphore `2 - i` here and on the receive semaphore `2 - i` there. A third of the send buffer is lent to each copy.
 * Each device waits on its three send semaphores and then on its three receive semaphores; slot `s` of its receive buffer
   then holds what `pe s c` computed from its own block.

So the barrier cell of `c` has three duties, named by the slots: duty `s` is paid by `pe s c`, which hands over slot
`2 - s` of its receive buffer.  Every other cell has one duty.  All of it happens in round 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Ring.Trips
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's rounds and the kernel's own (duties named by slots) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The groups of four -/

set_option backward.proofsInPublic true in
/-- The device `i + 1` places further round the group of four. -/
def pe (i : Fin 3) (c : Dev nD) : Dev nD :=
  ⟨4 * (c.val / 4) + (c.val % 4 + i.val + 1) % 4, by
    have h1 : c.val < 16 := c.isLt
    have h2 : (c.val % 4 + i.val + 1) % 4 < 4 := Nat.mod_lt _ (by decide)
    show _ < 16
    omega⟩

/-- The slot a copy `i` places on lands in. -/
abbrev op : Fin 3 → Fin 3 := fun | 0 => 2 | 1 => 1 | 2 => 0

theorem op_op (s : Fin 3) : op (op s) = s := by revert s; decide
set_option maxRecDepth 8000 in
theorem pe_op (s : Fin 3) (c : Dev nD) : pe (op s) (pe s c) = c := by revert s c; decide
theorem pe_op' (s : Fin 3) (c : Dev nD) : pe s (pe (op s) c) = c := by
  have h := pe_op (op s) c; rwa [op_op] at h
set_option maxRecDepth 8000 in
theorem pe_ne_self (s : Fin 3) (c : Dev nD) : pe s c ≠ c := by revert s c; decide

/-- Going round by `i + 1` places permutes the devices. -/
def round (s : Fin 3) : Dev nD ≃ Dev nD := ⟨pe s, pe (op s), pe_op s, pe_op' s⟩

/-- The kernel's `device_id` chains: the signals and the copies name the three others in order. -/
theorem dev1_eq (c : Dev nD) : (⟨k0_dev1 c, k0_dev1_lt c⟩ : Dev nD) = pe 0 c := by revert c; decide +kernel
theorem dev2_eq (c : Dev nD) : (⟨k0_dev2 c, k0_dev2_lt c⟩ : Dev nD) = pe 1 c := by revert c; decide +kernel
theorem dev3_eq (c : Dev nD) : (⟨k0_dev3 c, k0_dev3_lt c⟩ : Dev nD) = pe 2 c := by revert c; decide +kernel
theorem dev4_eq (c : Dev nD) : (⟨k0_dev4 c, k0_dev4_lt c⟩ : Dev nD) = pe 0 c := by revert c; decide +kernel
theorem dev5_eq (c : Dev nD) : (⟨k0_dev5 c, k0_dev5_lt c⟩ : Dev nD) = pe 1 c := by revert c; decide +kernel
theorem dev6_eq (c : Dev nD) : (⟨k0_dev6 c, k0_dev6_lt c⟩ : Dev nD) = pe 2 c := by revert c; decide +kernel

/-! ## The memrefs and cells -/

abbrev xM : Memref sig .tc .vmem S512x4096 .f32 := Memref.whole cc0_stg0_0
abbrev oM : Memref sig .tc .vmem S512x16 .f32 := Memref.whole cc0_stg1_0
abbrev sM : Memref sig .tc .vmem S512x16 .f32 := Memref.whole cc0_scratch0
abbrev rM : Memref sig .tc .vmem S3x512x16 .f32 := Memref.whole cc0_scratch1

/-- Where slot `s` of the receive buffer begins, -/
abbrev slotOff : Fin 3 → Fin 3 → ℕ := fun | 0 => ![0, 0, 0] | 1 => ![1, 0, 0] | 2 => ![2, 0, 0]
theorem slot_inb (s : Fin 3) : ∀ a, slotOff s a + S1x512x16.size a ≤ S3x512x16.size a := by
  revert s; exact fun | 0 => inb_S3x512x16_S1x512x16_0_0_0 | 1 => inb_S3x512x16_S1x512x16_1_0_0 | 2 => inb_S3x512x16_S1x512x16_2_0_0
/-- the slot as a rectangle, -/
abbrev slotR (s : Fin 3) : Rect S3x512x16 := Rect.unit (s := S3x512x16) (slotOff s) S1x512x16.size (slot_inb s)
/-- and as the buffer the copies are addressed to. -/
abbrev slotM (s : Fin 3) : Memref sig .tc .vmem S512x16 .f32 := (rM.slice (slotR s) (fun _ => rfl)).squeeze S512x16 squeezes_S1x512x16_S512x16

/-- The barrier semaphore (the runtime's, not scoped to the launch), the send and the receive semaphores. -/
abbrev barS : Sem sig := (SemArray.scalar (sig.barrier 0 rfl) : Sems sig S_).sem
abbrev sndQ : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev rcvQ : Fin 3 → DmaSem sig := fun
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

theorem sndQ_val (s : Fin 3) : (sndQ s).val = 2 + s.val := by fin_cases s <;> decide
theorem rcvQ_val (s : Fin 3) : (rcvQ s).val = 5 + s.val := by fin_cases s <;> decide

abbrev barCell (c : Dev nD) : GSem nD τ sig := ((c : Thread nD τ), .reg barS)
abbrev sendCell (c : Dev nD) (s : Fin 3) : GSem nD τ sig := ((c : Thread nD τ), .dma (sndQ s))
abbrev recvCell (c : Dev nD) (s : Fin 3) : GSem nD τ sig := ((c : Thread nD τ), .dma (rcvQ s))

/-- The kernel's OWN (scoped) semaphores, as the launch theorem indexes them; -/
abbrev osem : Fin 6 → SemLoc sig := fun
  | 0 => .dma (sndQ 0) | 1 => .dma (sndQ 1) | 2 => .dma (sndQ 2) | 3 => .dma (rcvQ 0) | 4 => .dma (rcvQ 1) | 5 => .dma (rcvQ 2)
/-- all seven of the protocol, as this proof indexes them: barrier, send, receive. -/
abbrev csem : Fin 7 → SemLoc sig := fun
  | 0 => .reg barS | 1 => .dma (sndQ 0) | 2 => .dma (sndQ 1) | 3 => .dma (sndQ 2) | 4 => .dma (rcvQ 0) | 5 => .dma (rcvQ 1) | 6 => .dma (rcvQ 2)
abbrev kcell (ck : Dev nD × Fin 7) : GSem nD τ sig := ((ck.1 : Thread nD τ), csem ck.2)
/-- The index of a send cell and of a receive cell. -/
abbrev kS : Fin 3 → Fin 7 := fun | 0 => 1 | 1 => 2 | 2 => 3
abbrev kR : Fin 3 → Fin 7 := fun | 0 => 4 | 1 => 5 | 2 => 6

/-- What one copy counts on its two semaphores. -/
abbrev N : ℕ := (sM : Memref sig .tc .vmem S512x16 .f32).view.dmaCredit
theorem N_pos : 0 < N := View.dmaCredit_pos _ (by decide)
theorem slot_credit (s : Fin 3) : (slotM s).view.dmaCredit = N := by fin_cases s <;> rfl

/-! ## Contents -/

/-- The block of the argument on device `c`, as it is staged. -/
def xstg (c : Dev nD) : (cc0_stg0_0 : Ref sig .tc).ty.Contents (Elt F) :=
  (win0_0.blk (0 : Fin 1)).view.read (Elt F) ((s₀ m ρ).mem ((c : Thread nD τ).loc main_arg0))

section Values
variable (x : Vec F S512x4096 .f32)

/-- The candidates a block leaves after the pass over its lanes: four per lane. -/
def candOf : FVec F S512x512 .f32 := k0_pay6 (k0_pay2 x) (k0_pay4 x) (k0_pay5 x)
/-- The candidates less than the fourth of them in order. -/
def candLow : FVec F S512x512 .f32 := k0_pay11 (k0_pay2 x) (k0_pay4 x) (k0_pay5 x)

/-- What a device computes from its own block. -/
def localOf : FVec F S512x16 .f32 :=
  k0_pay21 (candOf x) (k0_pay7 (k0_pay2 x) (k0_pay4 x) (k0_pay5 x)) (k0_pay8 (k0_pay2 x) (k0_pay4 x) (k0_pay5 x))
    (k0_pay9 (k0_pay2 x) (k0_pay4 x) (k0_pay5 x)) (k0_pay10 (k0_pay2 x) (k0_pay4 x) (k0_pay5 x))
    (k0_pay12 (candLow x)) (k0_pay13 (candOf x) (candLow x)) (k0_pay14 (candOf x) (candLow x)) (k0_pay15 (candOf x) (candLow x))
    (k0_pay16 (candOf x) (candLow x)) (k0_pay17 (candOf x) (candLow x)) (k0_pay18 (candOf x) (candLow x)) (k0_pay19 (candOf x) (candLow x))
    (k0_pay20 (candOf x) (candLow x))

/-- The same as it is stored in the send buffer. -/
def sentOf : FVec F S512x16 .f32 :=
  k0_pay22 (candOf x) (k0_pay7 (k0_pay2 x) (k0_pay4 x) (k0_pay5 x)) (k0_pay8 (k0_pay2 x) (k0_pay4 x) (k0_pay5 x))
    (k0_pay9 (k0_pay2 x) (k0_pay4 x) (k0_pay5 x)) (k0_pay10 (k0_pay2 x) (k0_pay4 x) (k0_pay5 x))
    (k0_pay12 (candLow x)) (k0_pay13 (candOf x) (candLow x)) (k0_pay14 (candOf x) (candLow x)) (k0_pay15 (candOf x) (candLow x))
    (k0_pay16 (candOf x) (candLow x)) (k0_pay17 (candOf x) (candLow x)) (k0_pay18 (candOf x) (candLow x)) (k0_pay19 (candOf x) (candLow x))
    (k0_pay20 (candOf x) (candLow x))

end Values

/-- The result a device makes of its own 16 columns and the three it received. -/
def mergeOf (l : FVec F S512x16 .f32) (a b d : Vec F S1x512x16 .f32) : FVec F S512x16 .f32 :=
  k0_pay1 (k0_pay23 l a b d) (k0_pay24 l a b d) (k0_pay25 l a b d) (k0_pay26 l a b d) (k0_pay27 l a b d)
    (k0_pay29 (k0_pay28 l a b d)) (k0_pay30 (k0_pay23 l a b d) (k0_pay28 l a b d)) (k0_pay31 (k0_pay23 l a b d) (k0_pay28 l a b d))
    (k0_pay32 (k0_pay23 l a b d) (k0_pay28 l a b d)) (k0_pay33 (k0_pay23 l a b d) (k0_pay28 l a b d)) (k0_pay34 (k0_pay23 l a b d) (k0_pay28 l a b d))
    (k0_pay35 (k0_pay23 l a b d) (k0_pay28 l a b d)) (k0_pay36 (k0_pay23 l a b d) (k0_pay28 l a b d)) (k0_pay37 (k0_pay23 l a b d) (k0_pay28 l a b d))
    (Named.named κ "neg_inf" 0xFF61B1E6#32)

/-- What device `c` sends. -/
def sent (c : Dev nD) : Vec F S512x16 .f32 := sentOf (xstg m ρ c)

theorem casts_up : S512x16.ShapeCasts S1x512x16 := by decide

/-- The result on device `c`. -/
def outAt (c : Dev nD) : (cc0_stg1_0 : Ref sig .tc).ty.Contents (Elt F) :=
  mergeOf (localOf (xstg m ρ c)) (shapeCast S1x512x16 (sent m ρ (pe 0 c)) casts_up) (shapeCast S1x512x16 (sent m ρ (pe 1 c)) casts_up)
    (shapeCast S1x512x16 (sent m ρ (pe 2 c)) casts_up)

/-- Slot `s` of device `c`'s receive buffer, at contents `f` of the whole buffer. -/
def slotPts (c : Dev nD) (s : Fin 3) (f : Buf (Elt F) ((slotM s).view.loc (c : Thread nD τ))) : sProp 𝕄 :=
  (slotM s).view.loc (c : Thread nD τ) ↦[(slotM s).view.set]{fullShare} f

/-- The send buffer lent at the share `q`. -/
def sendPts (c : Dev nD) (q : PosShare TreeShare) (f : Buf (Elt F) ((sM : Memref sig .tc .vmem S512x16 .f32).view.loc (c : Thread nD τ))) : sProp 𝕄 :=
  (sM : Memref sig .tc .vmem S512x16 .f32).view.loc (c : Thread nD τ) ↦[(sM : Memref sig .tc .vmem S512x16 .f32).view.set]{q} f

omit [FloatOps F] [Named F] in
instance slotPts_storable (c : Dev nD) (s : Fin 3) (f) : BI.Storable (upEmb : UEmb _ 𝕄) (slotPts (F := F) c s f) := by unfold slotPts; infer_instance
omit [FloatOps F] [Named F] in
instance sendPts_storable (c : Dev nD) (q) (f) : BI.Storable (upEmb : UEmb _ 𝕄) (sendPts (F := F) c q f) := by unfold sendPts; infer_instance

/-! ## The schedule -/

/-- What `pe s c`'s signal (duty `s` of `c`'s barrier cell) hands `c`: the slot `c`'s copy lands in over there, and that
    the receive cell it counts on is at round 0. -/
def barPay (c : Dev nD) (s : Fin 3) : sProp 𝕄 :=
  iprop((∃ f, slotPts (pe s c) (op s) f) ∗ reached ER (recvCell (pe s c) (op s)) 0)
/-- What the landing of slot `s` leaves on device `c`: the slot holding what `pe s c` sent. -/
def recvPay (c : Dev nD) (s : Fin 3) : sProp 𝕄 :=
  iprop(∃ f, ⌜(slotM s).view.read (Elt F) f = sent m ρ (pe s c)⌝ ∗ slotPts c s f)
/-- What the end of the copy counting on send semaphore `s` gives back. -/
def sendPay (c : Dev nD) (s : Fin 3) : sProp 𝕄 := sendPts c (Ring.shares3 fullShare s) (sent m ρ c)

/-- The semaphores of the protocol. -/
def ours : SemLoc sig → Prop
  | .reg s => s = barS
  | .dma q => 2 ≤ q.val

instance (sm : SemLoc sig) : Decidable (ours sm) := by unfold ours; cases sm <;> infer_instance

/-- The slot a numbered semaphore belongs to. -/
def slotOf (n : ℕ) : Fin 3 := ⟨n % 3, Nat.mod_lt _ (by decide)⟩

def payOf (c : Dev nD) (d : Fin 3) : SemLoc sig → sProp 𝕄
  | .reg _ => barPay c d
  | .dma q => if 5 ≤ q.val then recvPay m ρ c (slotOf (q.val - 5)) else sendPay m ρ c (slotOf (q.val - 2))

def amountOf : SemLoc sig → ℕ
  | .reg _ => 1
  | .dma _ => N

def dutiesOf : SemLoc sig → Finset (Fin 3)
  | .reg _ => Finset.univ
  | .dma _ => {0}

/-- One round, round 0: a barrier cell has the three duties of one unit each, every other cell of the protocol the duty
    `0` of a copy's credit. -/
def rd : Rounds.Schedule (GSem nD τ sig) (Fin 3) 𝕄 where
  duties g r := if r = 0 ∧ g.1.2 = .tc ∧ ours g.2 then dutiesOf g.2 else ∅
  unitless _ := False
  amount g _ _ := amountOf g.2
  payload g _ d := payOf m ρ g.1.1 d g.2
  amount_pos g _ _ _ := by
    rcases g with ⟨t, s | q⟩
    · exact Nat.one_pos
    · exact N_pos

instance rd_payload_storable (g : GSem nD τ sig) (r : ℕ) (d : Fin 3) :
    BI.Storable (upEmb : UEmb _ 𝕄) ((rd (F := F) m ρ).payload g r d) := by
  show BI.Storable upEmb (payOf m ρ g.1.1 d g.2)
  unfold payOf barPay recvPay sendPay
  (repeat' split) <;> infer_instance

section Sched
variable (c : Dev nD) (s : Fin 3)

theorem ours_snd : ours (.dma (sndQ s)) := by show 2 ≤ (sndQ s).val; rw [sndQ_val]; omega
theorem ours_rcv : ours (.dma (rcvQ s)) := by show 2 ≤ (rcvQ s).val; rw [rcvQ_val]; omega

theorem duties_bar : (rd (F := F) m ρ).duties (barCell c) 0 = Finset.univ := by dsimp only [rd]; exact if_pos ⟨rfl, rfl, rfl⟩
theorem duties_send : (rd (F := F) m ρ).duties (sendCell c s) 0 = {0} := by dsimp only [rd]; exact if_pos ⟨rfl, rfl, ours_snd s⟩
theorem duties_recv : (rd (F := F) m ρ).duties (recvCell c s) 0 = {0} := by dsimp only [rd]; exact if_pos ⟨rfl, rfl, ours_rcv s⟩
theorem duties_later (g : GSem nD τ sig) : ∀ r, 1 ≤ r → (rd (F := F) m ρ).duties g r = ∅ :=
  fun r hr => by dsimp only [rd]; exact if_neg fun h => by omega

theorem amount_bar (d : Fin 3) : (rd (F := F) m ρ).amount (barCell c) 0 d = 1 := rfl
theorem amount_send (d : Fin 3) : (rd (F := F) m ρ).amount (sendCell c s) 0 d = N := rfl
theorem amount_recv (d : Fin 3) : (rd (F := F) m ρ).amount (recvCell c s) 0 d = N := rfl

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c s) 0 = N := by
  unfold Schedule.expect Schedule.amountOf; rw [duties_send, Finset.sum_singleton, amount_send]
theorem expect_recv : (rd (F := F) m ρ).expect (recvCell c s) 0 = N := by
  unfold Schedule.expect Schedule.amountOf; rw [duties_recv, Finset.sum_singleton, amount_recv]

theorem payload_bar (d : Fin 3) : (rd (F := F) m ρ).payload (barCell c) 0 d = barPay c d := rfl
theorem slotOf_val (s : Fin 3) (n : ℕ) (h : n = s.val) : slotOf n = s := Fin.ext (by subst h; exact Nat.mod_eq_of_lt s.isLt)
theorem payload_send (d : Fin 3) : (rd (F := F) m ρ).payload (sendCell c s) 0 d = sendPay m ρ c s := by
  show (if 5 ≤ (sndQ s).val then _ else _) = _
  rw [if_neg (by rw [sndQ_val]; have := s.isLt; omega), slotOf_val s _ (by rw [sndQ_val]; omega)]
theorem payload_recv (d : Fin 3) : (rd (F := F) m ρ).payload (recvCell c s) 0 d = recvPay m ρ c s := by
  show (if 5 ≤ (rcvQ s).val then _ else _) = _
  rw [if_pos (by rw [rcvQ_val]; omega), slotOf_val s _ (by rw [rcvQ_val]; omega)]

/-- The rest of the barrier cell's round, no duty taken: the three payloads. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_univ_eq_bigSepL [0, 1, 2] (by decide) (by decide)]
  rfl
theorem rest_send : bigSep ((rd (F := F) m ρ).duties (sendCell c s) 0 \ ∅) (fun d => (rd (F := F) m ρ).payload (sendCell c s) 0 d) = sendPay m ρ c s := by
  rw [Finset.sdiff_empty, duties_send, bigSep_singleton, payload_send]
theorem rest_recv : bigSep ((rd (F := F) m ρ).duties (recvCell c s) 0 \ ∅) (fun d => (rd (F := F) m ρ).payload (recvCell c s) 0 d) = recvPay m ρ c s := by
  rw [Finset.sdiff_empty, duties_recv, bigSep_singleton, payload_recv]

end Sched

/-! ## What each core owes at launch; the levels -/

/-- What device `c` owes the receive cells of the three others, -/
def OC2 (c : Dev nD) : CellTallies nD τ sig Unit := tallyAt (recvCell (pe 2 c) 0) () N
def OC1 (c : Dev nD) : CellTallies nD τ sig Unit := OC2 c + tallyAt (recvCell (pe 1 c) 1) () N
def OC0 (c : Dev nD) : CellTallies nD τ sig Unit := OC1 c + tallyAt (recvCell (pe 0 c) 2) () N
/-- and their barrier cells besides, summed so that each signal and each copy peels the last summand. -/
def OB2 (c : Dev nD) : CellTallies nD τ sig Unit := OC0 c + tallyAt (barCell (pe 2 c)) () 1
def OB1 (c : Dev nD) : CellTallies nD τ sig Unit := OB2 c + tallyAt (barCell (pe 1 c)) () 1
def O₀ (c : Dev nD) : CellTallies nD τ sig Unit := OB1 c + tallyAt (barCell (pe 0 c)) () 1

def L (g : GSem nD τ sig) : Finset Unit := if g.1.2 = .tc then {()} else ∅
/-- Barrier cells at 1, receive cells at 2, everything else (staging, send) at 0. -/
def lvOf : SemLoc sig → ℕ
  | .reg _ => 1
  | .dma q => if 5 ≤ q.val then 2 else 0
def lv (g : GSem nD τ sig) (_ : Unit) : ℕ := lvOf g.2

theorem lv_recv (c : Dev nD) (s : Fin 3) (u : Unit) : lv (recvCell c s) u = 2 := by
  show (if 5 ≤ (rcvQ s).val then 2 else 0) = 2
  rw [if_pos (by rw [rcvQ_val]; omega)]

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u u' : Unit} {n : ℕ} (h : 0 < (tallyAt g' u' n : CellTallies nD τ sig Unit) g u) : g = g' := by
  rw [tallyAt_apply] at h
  by_contra hn
  rw [if_neg (fun h' => hn h'.1)] at h
  exact Nat.lt_irrefl 0 h

theorem OC0_pos {c : Dev nD} {g : GSem nD τ sig} {u : Unit} (h : 0 < OC0 c g u) : ∃ c' s, g = recvCell c' s := by
  unfold OC0 OC1 OC2 at h
  rw [Pi.add_apply, Finsupp.add_apply, Pi.add_apply, Finsupp.add_apply] at h
  rcases Nat.add_pos_iff_pos_or_pos.1 h with h | h
  · rcases Nat.add_pos_iff_pos_or_pos.1 h with h | h
    · exact ⟨_, _, tally_pos h⟩
    · exact ⟨_, _, tally_pos h⟩
  · exact ⟨_, _, tally_pos h⟩

theorem O₀_pos {c : Dev nD} {g : GSem nD τ sig} {u : Unit} (h : 0 < O₀ c g u) : (∃ c' s, g = recvCell c' s) ∨ ∃ c', g = barCell c' := by
  unfold O₀ OB1 OB2 at h
  rw [Pi.add_apply, Finsupp.add_apply, Pi.add_apply, Finsupp.add_apply, Pi.add_apply, Finsupp.add_apply] at h
  rcases Nat.add_pos_iff_pos_or_pos.1 h with h | h
  · rcases Nat.add_pos_iff_pos_or_pos.1 h with h | h
    · rcases Nat.add_pos_iff_pos_or_pos.1 h with h | h
      · exact .inl (OC0_pos h)
      · exact .inr ⟨_, tally_pos h⟩
    · exact .inr ⟨_, tally_pos h⟩
  · exact .inr ⟨_, tally_pos h⟩

omit [FloatOps F] [Named F] in
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', s, rfl⟩ | ⟨c', rfl⟩ <;> exact Finset.mem_singleton_self _)
      (fun p hp => by rw [Finset.mem_singleton.mp hp]; show (if 5 ≤ q.val then 2 else 0) ≤ 0; rw [if_neg (by omega)])
      (fun g u hg => by
        rcases O₀_pos hg with ⟨c', s, rfl⟩ | ⟨c', rfl⟩
        · rw [lv_recv]; decide
        · show 0 < 1; decide)
  · rw [MayWait_zero]; iintro -; iempintro

omit [FloatOps F] [Named F] in
/-- At its barrier wait a device owes receive credits only: receive cells, above its barrier cell. -/
theorem mayWait_bar (c : Dev nD) : (levAts L lv : sProp 𝕄) ⊢ MayWait (c : Thread nD τ) (.reg barS) () (OC0 c) :=
  MayOwe.of_cut (L := L) (lev := lv) 1 (fun p hp => by rw [Finset.mem_singleton.mp hp, L_tc]; exact Finset.mem_singleton_self _)
    (fun g u hg => by obtain ⟨c', s, rfl⟩ := OC0_pos hg; exact Finset.mem_singleton_self _)
    (fun p hp => by rw [Finset.mem_singleton.mp hp]; exact le_refl _)
    (fun g u hg => by obtain ⟨c', s, rfl⟩ := OC0_pos hg; rw [lv_recv]; decide)

end Cert.KernelIdealProof

end
-- ==== Proof.Ranks.lean ====
/-
# The n-th largest of the different values

`nth S k` is the `k`-th largest (from 0) of the different values of a set of extended reals, `⊥` where there are fewer.
`⊥` itself never counts: it stands for "no value", so two sets that differ by `⊥` alone have the same `nth`.
What follows is everything the kernel and its reference need of it: when a part of a set has the same first values, and
that an array sorted downwards without repeats lists them.
-/
module

public import Idealize.ShloMosaic.PureOps.Ideal

@[expose] public section

noncomputable section

namespace Cert.Ranks

/-- The `k`-th largest of the different values of `S`, `⊥` if there is none. -/
def nth (S : Set EReal) : ℕ → EReal
  | 0 => sSup S
  | k + 1 => sSup {v | v ∈ S ∧ v < nth S k}

variable {S T U : Set EReal}

theorem sSup_mem_of_ne_bot (hS : S.Finite) (h : sSup S ≠ ⊥) : sSup S ∈ S := by
  have hne : S.Nonempty := by
    by_contra hn
    rw [Set.not_nonempty_iff_eq_empty] at hn
    exact h (by rw [hn, sSup_empty])
  exact hne.csSup_mem hS

theorem below_finite (hS : S.Finite) (k : ℕ) : {v | v ∈ S ∧ v < nth S k}.Finite := hS.subset fun _ h => h.1

theorem nth_mem (hS : S.Finite) (k : ℕ) (h : nth S k ≠ ⊥) : nth S k ∈ S := by
  cases k with
  | zero => exact sSup_mem_of_ne_bot hS h
  | succ k => exact (sSup_mem_of_ne_bot (below_finite hS k) h).1

theorem nth_succ_lt (hS : S.Finite) (k : ℕ) (h : nth S (k + 1) ≠ ⊥) : nth S (k + 1) < nth S k :=
  (sSup_mem_of_ne_bot (below_finite hS k) h).2

theorem nth_succ_le (k : ℕ) : nth S (k + 1) ≤ nth S k := sSup_le fun _ h => le_of_lt h.2

theorem nth_antitone : Antitone (nth S) := antitone_nat_of_succ_le fun k => nth_succ_le k

/-- A larger set has larger values at every place. -/
theorem nth_mono (h : ∀ v ∈ U, v ≠ ⊥ → v ∈ S) (k : ℕ) : nth U k ≤ nth S k := by
  induction k with
  | zero =>
    refine sSup_le fun v hv => ?_
    by_cases hb : v = ⊥
    · rw [hb]; exact bot_le
    · exact le_sSup (h v hv hb)
  | succ k ih =>
    refine sSup_le fun v hv => ?_
    by_cases hb : v = ⊥
    · rw [hb]; exact bot_le
    · exact le_sSup ⟨h v hv.1 hb, lt_of_lt_of_le hv.2 ih⟩

/-- Sets that differ by `⊥` alone have the same values. -/
theorem nth_congr (h : ∀ v ∈ U, v ≠ ⊥ → v ∈ S) (h' : ∀ v ∈ S, v ≠ ⊥ → v ∈ U) : nth U = nth S :=
  funext fun k => le_antisymm (nth_mono h k) (nth_mono h' k)

/-- A value at least the `j`-th is one of the first. -/
theorem exists_nth_eq {v : EReal} (hv : v ∈ U) : ∀ j : ℕ, nth U j ≤ v → ∃ i, i ≤ j ∧ nth U i = v
  | 0, h => ⟨0, le_refl _, le_antisymm h (le_sSup hv)⟩
  | j + 1, h => by
    by_cases hj : nth U j ≤ v
    · obtain ⟨i, hi, e⟩ := exists_nth_eq hv j hj
      exact ⟨i, Nat.le_succ_of_le hi, e⟩
    · exact ⟨j + 1, le_refl _, le_antisymm h (le_sSup ⟨hv, not_le.mp hj⟩)⟩

/-- A part of a set that holds its first `n` values has the same first `n` values. -/
theorem nth_eq_of_part (hS : S.Finite) (hT : ∀ v ∈ T, v ≠ ⊥ → v ∈ S) (n : ℕ)
    (h : ∀ j < n, nth S j ≠ ⊥ → nth S j ∈ T) : ∀ k < n, nth T k = nth S k := by
  intro k
  induction k with
  | zero =>
    intro hk
    refine le_antisymm (nth_mono hT 0) ?_
    by_cases hb : nth S 0 = ⊥
    · rw [hb]; exact bot_le
    · exact le_sSup (h 0 hk hb)
  | succ k ih =>
    intro hk
    refine le_antisymm (nth_mono hT (k + 1)) ?_
    by_cases hb : nth S (k + 1) = ⊥
    · rw [hb]; exact bot_le
    · exact le_sSup ⟨h (k + 1) hk hb, by rw [ih (by omega)]; exact nth_succ_lt hS k hb⟩

/-- The first `n` values of each of several sets, together: their first `n` values are those of the union. -/
theorem nth_firsts {ι : Type} [Finite ι] (A : ι → Set EReal) (hA : ∀ i, (A i).Finite) (n : ℕ) :
    ∀ k < n, nth {v | ∃ i, ∃ j < n, v = nth (A i) j} k = nth {v | ∃ i, v ∈ A i} k := by
  have hfin : {v | ∃ i, v ∈ A i}.Finite := by
    rw [Set.setOf_exists]; exact Set.finite_iUnion hA
  refine nth_eq_of_part hfin ?_ n ?_
  · rintro v ⟨i, j, hj, rfl⟩ hb
    exact ⟨i, nth_mem (hA i) j hb⟩
  · intro j hj hb
    obtain ⟨i, hi⟩ := nth_mem hfin j hb
    obtain ⟨i', h1, h2⟩ := exists_nth_eq hi j (nth_mono (U := A i) (S := {v | ∃ i, v ∈ A i}) (fun v hv _ => ⟨i, hv⟩) j)
    exact ⟨i, i', by omega, h2.symm⟩

/-- The first `p` values of each of several sets, when none of them holds more than `p` of the union's first `n + 1`:
    their first `n + 1` values are those of the union. -/
theorem nth_firsts_few {ι : Type} [Finite ι] (A : ι → Set EReal) (hA : ∀ i, (A i).Finite) (p n : ℕ)
    (hp : ∀ i, nth (A i) p < nth {v | ∃ i, v ∈ A i} n ∨ nth (A i) p = ⊥) :
    ∀ k < n + 1, nth {v | ∃ i, ∃ j < p, v = nth (A i) j} k = nth {v | ∃ i, v ∈ A i} k := by
  have hfin : {v | ∃ i, v ∈ A i}.Finite := by
    rw [Set.setOf_exists]; exact Set.finite_iUnion hA
  refine nth_eq_of_part hfin ?_ (n + 1) ?_
  · rintro v ⟨i, j, hj, rfl⟩ hb
    exact ⟨i, nth_mem (hA i) j hb⟩
  · intro j hj hb
    obtain ⟨i, hi⟩ := nth_mem hfin j hb
    have hlt : nth (A i) p < nth {v | ∃ i, v ∈ A i} j := by
      rcases hp i with h | h
      · exact lt_of_lt_of_le h (nth_antitone (by omega))
      · rw [h]; exact bot_lt_iff_ne_bot.mpr hb
    obtain ⟨i', h1, h2⟩ := exists_nth_eq hi p (le_of_lt hlt)
    refine ⟨i, i', lt_of_le_of_ne h1 fun e => ?_, h2.symm⟩
    rw [e] at h2
    exact absurd h2 (ne_of_lt hlt)

/-! ## A list sorted downwards -/

/-- An array that goes strictly down, until it stays at `⊥`, lists the values of its range. -/
theorem nth_range_of_down {n : ℕ} (y : Fin n → EReal) (h : ∀ i j, i < j → y j < y i ∨ y j = ⊥) :
    ∀ k (hk : k < n), nth (Set.range y) k = y ⟨k, hk⟩ := by
  intro k
  induction k with
  | zero =>
    intro hk
    refine le_antisymm (sSup_le ?_) (le_sSup ⟨_, rfl⟩)
    rintro _ ⟨i, rfl⟩
    by_cases hi : i.val = 0
    · exact le_of_eq (congrArg y (Fin.ext hi))
    · rcases h ⟨0, hk⟩ i (by rw [Fin.lt_def]; exact Nat.pos_of_ne_zero hi) with e | e
      · exact le_of_lt e
      · rw [e]; exact bot_le
  | succ k ih =>
    intro hk
    have ih' := ih (by omega)
    refine le_antisymm (sSup_le ?_) ?_
    · rintro _ ⟨⟨i, rfl⟩, hi⟩
      rw [ih'] at hi
      rcases Nat.lt_trichotomy i.val (k + 1) with e | e | e
      · exfalso
        rcases Nat.lt_or_eq_of_le (Nat.le_of_lt_succ e) with e' | e'
        · rcases h i ⟨k, by omega⟩ e' with e'' | e''
          · exact absurd hi (not_lt_of_gt e'')
          · rw [e''] at hi; exact absurd hi not_lt_bot
        · rw [show i = ⟨k, by omega⟩ from Fin.ext e'] at hi; exact absurd hi (lt_irrefl _)
      · exact le_of_eq (congrArg y (Fin.ext e))
      · rcases h ⟨k + 1, hk⟩ i e with e' | e'
        · exact le_of_lt e'
        · rw [e']; exact bot_le
    · rcases h ⟨k, by omega⟩ ⟨k + 1, hk⟩ (by rw [Fin.lt_def]; exact Nat.lt_succ_self k) with e | e
      · exact le_sSup ⟨⟨_, rfl⟩, by rw [ih']; exact e⟩
      · rw [e]; exact bot_le

/-- The values of an array in which only `⊥` repeats, in any downward order: the `k`-th is the `k`-th largest. -/
theorem nth_of_sorted {n : ℕ} (x : Fin n → EReal) (hx : ∀ i j, x i = x j → x i ≠ ⊥ → i = j) (σ : Fin n → Fin n)
    (hσ : Function.Bijective σ) (hd : ∀ i j, i < j → x (σ j) ≤ x (σ i)) (k : ℕ) (hk : k < n) :
    x (σ ⟨k, hk⟩) = nth (Set.range x) k := by
  rw [← hσ.surjective.range_comp x, nth_range_of_down (x ∘ σ) ?_ k hk]
  · rfl
  · intro i j hij
    by_cases hb : x (σ j) = ⊥
    · exact Or.inr hb
    · refine Or.inl (lt_of_le_of_ne (hd i j hij) fun e => ?_)
      exact absurd (hσ.injective (hx _ _ e hb)) (ne_of_gt hij)

/-! ## One copy of each value -/

/-- A sorted array with every value that comes again right after replaced by `⊥`. -/
def once {n : ℕ} (s : Fin n → EReal) (i : Fin n) : EReal :=
  if h : i.val + 1 < n then (if s ⟨i.val + 1, h⟩ = s i then ⊥ else s i) else s i

theorem once_eq {n : ℕ} (s : Fin n → EReal) (i : Fin n) (h : once s i ≠ ⊥) : once s i = s i := by
  unfold once at h ⊢
  split_ifs at h ⊢ with h1 h2
  · exact absurd rfl h
  · rfl
  · rfl

theorem once_injective {n : ℕ} (s : Fin n → EReal) (hs : Monotone s) (i j : Fin n) (e : once s i = once s j) (hb : once s i ≠ ⊥) : i = j := by
  have key : ∀ i j : Fin n, i < j → once s i = once s j → once s i ≠ ⊥ → False := by
    intro i j hij e hb
    have h1 := once_eq s i hb
    have h2 := once_eq s j (e ▸ hb)
    have hj : i.val + 1 < n := by have := j.isLt; have := Fin.lt_def.mp hij; omega
    have h3 : s ⟨i.val + 1, hj⟩ = s i := by
      refine le_antisymm ?_ (hs (Fin.le_def.mpr (Nat.le_succ _)))
      rw [← h1, e, h2]
      exact hs (Fin.le_def.mpr (Fin.lt_def.mp hij))
    apply hb
    unfold once
    rw [dif_pos hj, if_pos h3]
  rcases lt_trichotomy i j with h | h | h
  · exact (key i j h e hb).elim
  · exact h
  · exact (key j i h e.symm (e ▸ hb)).elim

theorem once_surj {n : ℕ} (s : Fin n → EReal) : ∀ (d : ℕ) (i : Fin n), n - i.val ≤ d → ∃ j, once s j = s i
  | 0, i, h => by have := i.isLt; omega
  | d + 1, i, h => by
    by_cases h1 : i.val + 1 < n
    · by_cases h2 : s ⟨i.val + 1, h1⟩ = s i
      · obtain ⟨j, hj⟩ := once_surj s d ⟨i.val + 1, h1⟩ (by show n - (i.val + 1) ≤ d; omega)
        exact ⟨j, by rw [hj, h2]⟩
      · exact ⟨i, by unfold once; rw [dif_pos h1, if_neg h2]⟩
    · exact ⟨i, by unfold once; rw [dif_neg h1]⟩

/-- Keeping one copy of each value changes none of the ranks. -/
theorem nth_once {n : ℕ} (s : Fin n → EReal) : nth (Set.range (once s)) = nth (Set.range s) := by
  refine nth_congr ?_ ?_
  · rintro _ ⟨i, rfl⟩ hb
    exact ⟨i, (once_eq s i hb).symm⟩
  · rintro _ ⟨i, rfl⟩ _
    obtain ⟨j, hj⟩ := once_surj s _ i (le_refl _)
    exact ⟨j, hj⟩

/-! ## The two shapes of a maximum -/

theorem sup_eq_nth_zero {ι : Type} [Fintype ι] (x : ι → EReal) : Finset.univ.fold max ⊥ x = nth (Set.range x) 0 := by
  show _ = sSup (Set.range x)
  rw [sSup_range, ← Finset.sup_univ_eq_iSup]
  rfl

/-- The maximum of what lies below `m`, `⊥` standing for what does not. -/
theorem sup_below {ι : Type} [Fintype ι] (x : ι → EReal) (k : ℕ) :
    Finset.univ.fold max ⊥ (fun i => if x i < nth (Set.range x) k then x i else ⊥) = nth (Set.range x) (k + 1) := by
  rw [sup_eq_nth_zero]
  refine le_antisymm (sSup_le ?_) (sSup_le ?_)
  · rintro _ ⟨i, rfl⟩
    by_cases h : x i < nth (Set.range x) k
    · exact le_trans (le_of_eq (if_pos h)) (le_sSup ⟨⟨i, rfl⟩, h⟩)
    · exact le_trans (le_of_eq (if_neg h)) bot_le
  · rintro _ ⟨⟨i, rfl⟩, h⟩
    exact le_trans (le_of_eq (if_pos h).symm) (le_sSup ⟨i, rfl⟩)

end Cert.Ranks

end
-- ==== Proof.Rounds.lean ====
/-
# One block's value: the rounds of a strict maximum

A round takes the largest element of each row, and the next round the largest of those less than it. The kernel runs
sixteen rounds over the candidates a block leaves, sixteen over the gathered lists, and four over every lane of the
block. Here a list of rounds is a recursive definition, and its `k`-th entry is `nth` of what the row holds.
-/
module

public import proofs.«01_k».proof.Proof.Protocol
public import proofs.«01_k».proof.Proof.Ranks
public import Idealize.ShloMosaic.Lib.Pointwise

@[expose] public section

set_option maxRecDepth 1500

noncomputable section

namespace Cert.KernelIdealProof

open Idealize.ShloMosaic Cert.KernelIdeal Cert.KernelIdeal.Gen Cert.Ranks

section
variable {F : FTy → Type} [FloatOps F] [Named F]

/-- The maxima over the rows of a `[512, 512]` array. -/
def wideTop (X : FVec F S512x512 .f32) : FVec F S512x1 .f32 :=
  shapeCast S512x1 (multiReduction .maximumf [1] S512 X 0xFF800000#32 reduces_S512x512_S512 (.inl rfl) rfl) shapeCasts_S512_S512x1

/-- The elements less than the maxima `y` of the round before. -/
def wideRest (X : FVec F S512x512 .f32) (y : FVec F S512x1 .f32) : FVec F S512x512 .f32 :=
  select (cmpf .olt X (broadcastTo S512x512 y broadcasts_S512x1_S512x512)) X (broadcast S512x512 (Named.named κ "neg_inf" 0xFF61B1E6#32))

/-- The `k`-th round over the rows of a `[512, 512]` array. -/
def wide (X : FVec F S512x512 .f32) : ℕ → FVec F S512x1 .f32
  | 0 => wideTop X
  | k + 1 => wideTop (wideRest X (wide X k))

/-- The maxima over the rows of a `[512, 64]` array. -/
def slimTop (X : FVec F S512x64 .f32) : FVec F S512x1 .f32 :=
  shapeCast S512x1 (multiReduction .maximumf [1] S512 X 0xFF800000#32 reduces_S512x64_S512 (.inl rfl) rfl) shapeCasts_S512_S512x1

/-- The elements less than the maxima `y` of the round before. -/
def slimRest (X : FVec F S512x64 .f32) (y : FVec F S512x1 .f32) : FVec F S512x64 .f32 :=
  select (cmpf .olt X (broadcastTo S512x64 y broadcasts_S512x1_S512x64)) X (broadcast S512x64 (Named.named κ "neg_inf" 0xFF61B1E6#32))

/-- The `k`-th round over the rows of a `[512, 64]` array. -/
def slim (X : FVec F S512x64 .f32) : ℕ → FVec F S512x1 .f32
  | 0 => slimTop X
  | k + 1 => slimTop (slimRest X (slim X k))

/-- The maxima over the lanes of a `[512, 32, 128]` array. -/
def deepTop (X : FVec F S512x32x128 .f32) : FVec F S512x1x128 .f32 :=
  shapeCast S512x1x128 (multiReduction .maximumf [1] S512x128 X 0xFF800000#32 reduces_S512x32x128_S512x128 (.inl rfl) rfl) shapeCasts_S512x128_S512x1x128

/-- The elements less than the maxima `y` of the round before. -/
def deepRest (X : FVec F S512x32x128 .f32) (y : FVec F S512x1x128 .f32) : FVec F S512x32x128 .f32 :=
  select (cmpf .olt X (broadcastTo S512x32x128 y broadcasts_S512x1x128_S512x32x128)) X (broadcast S512x32x128 (Named.named κ "neg_inf" 0xFF61B1E6#32))

/-- The `k`-th round over the lanes of a `[512, 32, 128]` array. -/
def deep (X : FVec F S512x32x128 .f32) : ℕ → FVec F S512x1x128 .f32
  | 0 => deepTop X
  | k + 1 => deepTop (deepRest X (deep X k))

/-- Sixteen columns side by side. -/
def columns (f : ℕ → FVec F S512x1 .f32) : FVec F S512x16 .f32 :=
  concatenate S512x16 1 [⟨S512x1, f 0⟩, ⟨S512x1, f 1⟩, ⟨S512x1, f 2⟩, ⟨S512x1, f 3⟩, ⟨S512x1, f 4⟩, ⟨S512x1, f 5⟩, ⟨S512x1, f 6⟩, ⟨S512x1, f 7⟩,
    ⟨S512x1, f 8⟩, ⟨S512x1, f 9⟩, ⟨S512x1, f 10⟩, ⟨S512x1, f 11⟩, ⟨S512x1, f 12⟩, ⟨S512x1, f 13⟩, ⟨S512x1, f 14⟩, ⟨S512x1, f 15⟩]
    concatenates_S512x1_S512x1_S512x1_S512x1_S512x1_S512x1_S512x1_S512x1_S512x1_S512x1_S512x1_S512x1_S512x1_S512x1_S512x1_S512x1_S512x16_d1

/-- The four rounds of every lane side by side. -/
def lanes (X : FVec F S512x32x128 .f32) : FVec F S512x512 .f32 :=
  concatenate S512x512 1 [⟨S512x128, shapeCast S512x128 (deep X 0) shapeCasts_S512x1x128_S512x128⟩,
    ⟨S512x128, shapeCast S512x128 (deep X 1) shapeCasts_S512x1x128_S512x128⟩,
    ⟨S512x128, shapeCast S512x128 (deep X 2) shapeCasts_S512x1x128_S512x128⟩,
    ⟨S512x128, shapeCast S512x128 (deep X 3) shapeCasts_S512x1x128_S512x128⟩] concatenates_S512x128_S512x128_S512x128_S512x128_S512x512_d1

theorem candOf_eq (x : Vec F S512x4096 .f32) : candOf x = lanes (k0_pay2 x) := rfl

theorem localOf_eq (x : Vec F S512x4096 .f32) : localOf x = columns (wide (candOf x)) := rfl

theorem mergeOf_eq (l : FVec F S512x16 .f32) (a b d : Vec F S1x512x16 .f32) :
    mergeOf l a b d = columns (slim (k0_pay23 l a b d)) := rfl

theorem sentOf_eq (x : Vec F S512x4096 .f32) : sentOf x = shapeCast S512x16 (localOf x) shapeCasts_S512x16_S512x16 := rfl

end

/-- Round `k` finds the `k`-th largest of a row's different values. -/
theorem wide_apply (X : FVec Ideal S512x512 .f32) (k : ℕ) (r : Fin 512) (z : Fin 1) :
    wide X k (ix2 r z) = nth (Set.range fun l : Fin 512 => X (ix2 r l)) k := by
  induction k generalizing z with
  | zero =>
    pointwise [wide, wideTop, wideRest]
    exact sup_eq_nth_zero _
  | succ k ih =>
    pointwise [wide, wideTop, wideRest]
    rw [ih]
    exact sup_below (fun l : Fin 512 => X (ix2 r l)) k

theorem slim_apply (X : FVec Ideal S512x64 .f32) (k : ℕ) (r : Fin 512) (z : Fin 1) :
    slim X k (ix2 r z) = nth (Set.range fun l : Fin 64 => X (ix2 r l)) k := by
  induction k generalizing z with
  | zero =>
    pointwise [slim, slimTop, slimRest]
    exact sup_eq_nth_zero _
  | succ k ih =>
    pointwise [slim, slimTop, slimRest]
    rw [ih]
    exact sup_below (fun l : Fin 64 => X (ix2 r l)) k

theorem deep_apply (X : FVec Ideal S512x32x128 .f32) (k : ℕ) (r : Fin 512) (z : Fin 1) (i : Fin 128) :
    deep X k (ix3 r z i) = nth (Set.range fun g : Fin 32 => X (ix3 r g i)) k := by
  induction k generalizing z with
  | zero =>
    pointwise [deep, deepTop, deepRest]
    exact sup_eq_nth_zero _
  | succ k ih =>
    pointwise [deep, deepTop, deepRest]
    rw [ih]
    exact sup_below (fun g : Fin 32 => X (ix3 r g i)) k

theorem columns_apply (f : ℕ → FVec Ideal S512x1 .f32) (r : Fin 512) (k : Fin 16) :
    columns f (ix2 r k) = f k (ix2 r 0) := by
  have e : columns f = concatenate S512x16 1 (List.ofFn fun n : Fin 16 => (⟨S512x1, f n⟩ : (s : Shape) × (s.Idx → EReal)))
      concatenates_S512x1_S512x1_S512x1_S512x1_S512x1_S512x1_S512x1_S512x1_S512x1_S512x1_S512x1_S512x1_S512x1_S512x1_S512x1_S512x1_S512x16_d1 := rfl
  rw [e]
  pointwise

theorem pay2_apply (x : Vec Ideal S512x4096 .f32) (r : Fin 512) (g : Fin 32) (i : Fin 128) :
    k0_pay2 x (ix3 r g i) = x (ix2 r ⟨g * 128 + i, by omega⟩) := by
  pointwise [k0_pay2]

theorem lanes_apply (X : FVec Ideal S512x32x128 .f32) (r : Fin 512) (l : Fin 512) (i : Fin 128) (j : ℕ) (hl : l.val = j * 128 + i) :
    lanes X (ix2 r l) = nth (Set.range fun g : Fin 32 => X (ix3 r g i)) j := by
  pointwise [lanes]
  simp only [deep_apply]
  obtain rfl | rfl | rfl | rfl : j = 0 ∨ j = 1 ∨ j = 2 ∨ j = 3 := by omega
  · rw [dif_pos (by omega)]
    exact congrArg (fun i => nth (Set.range fun g : Fin 32 => X (ix3 r g i)) 0) (Fin.ext (by simp only; omega))
  · rw [dif_neg (by omega), dif_pos (by omega)]
    exact congrArg (fun i => nth (Set.range fun g : Fin 32 => X (ix3 r g i)) 1) (Fin.ext (by simp only; omega))
  · rw [dif_neg (by omega), dif_neg (by omega), dif_pos (by omega)]
    exact congrArg (fun i => nth (Set.range fun g : Fin 32 => X (ix3 r g i)) 2) (Fin.ext (by simp only; omega))
  · rw [dif_neg (by omega), dif_neg (by omega), dif_neg (by omega)]
    exact congrArg (fun i => nth (Set.range fun g : Fin 32 => X (ix3 r g i)) 3) (Fin.ext (by simp only; omega))

/-- The candidates of a row are the four largest values of every lane. -/
theorem lanes_range (X : FVec Ideal S512x32x128 .f32) (r : Fin 512) :
    (Set.range fun l : Fin 512 => lanes X (ix2 r l)) =
      {v | ∃ i : Fin 128, ∃ j < 4, v = nth (Set.range fun g : Fin 32 => X (ix3 r g i)) j} := by
  ext v
  constructor
  · rintro ⟨l, rfl⟩
    exact ⟨⟨l % 128, by omega⟩, l / 128, by omega, lanes_apply X r l ⟨l % 128, by omega⟩ (l / 128) (by simp only; omega)⟩
  · rintro ⟨i, j, hj, rfl⟩
    exact ⟨⟨j * 128 + i, by omega⟩, lanes_apply X r _ i j rfl⟩

/-- Lane `i` of row `r` of a block: the elements whose column is `i` modulo 128. -/
def lane (x : Vec Ideal S512x4096 .f32) (r : Fin 512) (i : Fin 128) : Set EReal :=
  Set.range fun g : Fin 32 => x (ix2 r ⟨g * 128 + i, by omega⟩)

/-- Row `r` of a block. -/
def rowOf (x : Vec Ideal S512x4096 .f32) (r : Fin 512) : Set EReal := Set.range fun l : Fin 4096 => x (ix2 r l)

theorem rowOf_eq (x : Vec Ideal S512x4096 .f32) (r : Fin 512) : rowOf x r = {v | ∃ i, v ∈ lane x r i} := by
  ext v
  constructor
  · rintro ⟨l, rfl⟩
    refine ⟨⟨l % 128, by omega⟩, ⟨l / 128, by omega⟩, ?_⟩
    simp only
    congr 2
    apply Fin.ext
    simp only
    omega
  · rintro ⟨i, g, rfl⟩
    exact ⟨_, rfl⟩

/-- No lane holds more than four of the row's sixteen largest different values. -/
def FourPerLane (x : Vec Ideal S512x4096 .f32) : Prop :=
  ∀ r i, nth (lane x r i) 4 < nth (rowOf x r) 15 ∨ nth (lane x r i) 4 = ⊥

/-- What a device computes of its own block: the sixteen largest different values of each row. -/
theorem localOf_apply (x : Vec Ideal S512x4096 .f32) (hx : FourPerLane x) (r : Fin 512) (k : Fin 16) :
    localOf x (ix2 r k) = nth (rowOf x r) k := by
  rw [localOf_eq, columns_apply, wide_apply, candOf_eq, lanes_range, rowOf_eq]
  simp only [pay2_apply]
  refine nth_firsts_few (lane x r) (fun i => Set.finite_range _) 4 15 ?_ k (by omega)
  intro i
  rw [← rowOf_eq]
  exact hx r i

/-- The lists of four devices laid side by side. -/
theorem merge_range (y : Fin 4 → FVec Ideal S512x16 .f32) (a b d : Vec Ideal S1x512x16 .f32)
    (ha : ∀ r k, a (ix3 0 r k) = y 1 (ix2 r k)) (hb : ∀ r k, b (ix3 0 r k) = y 2 (ix2 r k)) (hd : ∀ r k, d (ix3 0 r k) = y 3 (ix2 r k))
    (r : Fin 512) :
    (Set.range fun j : Fin 64 => k0_pay23 (y 0) a b d (ix2 r j)) = {v | ∃ n : Fin 4, ∃ k : Fin 16, v = y n (ix2 r k)} := by
  have e : ∀ (j : Fin 64) (n : Fin 4) (k : Fin 16), j.val = n * 16 + k → k0_pay23 (y 0) a b d (ix2 r j) = y n (ix2 r k) := by
    intro j n k h
    pointwise [k0_pay23]
    simp only [ha, hb, hd]
    fin_vals n with hn
    · rw [dif_pos (by omega)]
      obtain rfl : n = 0 := Fin.ext hn
      exact congrArg (fun k => y 0 (ix2 r k)) (Fin.ext (by simp only [Fin.isValue] at h ⊢; omega))
    · rw [dif_neg (by omega), dif_pos (by omega)]
      obtain rfl : n = 1 := Fin.ext hn
      exact congrArg (fun k => y 1 (ix2 r k)) (Fin.ext (by simp only [Fin.isValue] at h ⊢; omega))
    · rw [dif_neg (by omega), dif_neg (by omega), dif_pos (by omega)]
      obtain rfl : n = 2 := Fin.ext hn
      exact congrArg (fun k => y 2 (ix2 r k)) (Fin.ext (by simp only [Fin.isValue] at h ⊢; omega))
    · rw [dif_neg (by omega), dif_neg (by omega), dif_neg (by omega)]
      obtain rfl : n = 3 := Fin.ext hn
      exact congrArg (fun k => y 3 (ix2 r k)) (Fin.ext (by simp only [Fin.isValue] at h ⊢; omega))
  ext v
  constructor
  · rintro ⟨j, rfl⟩
    exact ⟨⟨j / 16, by omega⟩, ⟨j % 16, by omega⟩, e _ _ _ (by simp only; omega)⟩
  · rintro ⟨n, k, rfl⟩
    exact ⟨⟨n * 16 + k, by omega⟩, e _ _ _ rfl⟩

/-- The result of a device from the rows of four: the sixteen largest different values of their union. -/
theorem mergeOf_apply (y : Fin 4 → FVec Ideal S512x16 .f32) (a b d : Vec Ideal S1x512x16 .f32)
    (ha : ∀ r k, a (ix3 0 r k) = y 1 (ix2 r k)) (hb : ∀ r k, b (ix3 0 r k) = y 2 (ix2 r k)) (hd : ∀ r k, d (ix3 0 r k) = y 3 (ix2 r k))
    (r : Fin 512) (A : Fin 4 → Set EReal) (hA : ∀ n, (A n).Finite) (hy : ∀ n (k : Fin 16), y n (ix2 r k) = nth (A n) k) (k : Fin 16) :
    mergeOf (y 0) a b d (ix2 r k) = nth {v | ∃ n, v ∈ A n} k := by
  rw [mergeOf_eq, columns_apply, slim_apply, merge_range y a b d ha hb hd, ← nth_firsts A hA 16 k k.isLt]
  congr 1
  ext v
  constructor
  · rintro ⟨n, k, rfl⟩
    exact ⟨n, k, k.isLt, hy n k⟩
  · rintro ⟨n, k, hk, rfl⟩
    exact ⟨n, ⟨k, hk⟩, (hy n ⟨k, hk⟩).symm⟩

end Cert.KernelIdealProof
-- ==== Proof.Spread.lean ====
/-
# What the precondition says

The predicate of the statement finds the fifth largest different value of every lane and the sixteenth of every row by the
same rounds of a strict maximum, written with host operations. Where it is true everywhere, no lane of a row holds more
than four of the row's sixteen largest different values.
-/
module

public import proofs.«01_k».proof.Proof.Rounds
public import proofs.«01_k».proof.Proof.Gen.Pre_four_per_lane_KernelIdeal
public import Idealize.ShloMosaic.Lib.KernelVsHost

@[expose] public section

set_option maxRecDepth 1500

noncomputable section

namespace Cert.KernelIdealProof.Spread

open Idealize.ShloMosaic Cert.Pre_four_per_lane_KernelIdeal Cert.Ranks
open Cert.Pre_four_per_lane_KernelIdeal.Facts

section
variable {F : FTy → Type} [FloatOps F]

def rowTop (X : FVec F S512x4096 .f32) : FVec F S512x1 .f32 :=
  broadcastInDim S512x1 ![0] bcast_S512_S512x1_0
    (Host.reduce FloatOps.maximumf X (constant S_ .f32 0xFF800000#32) reducesTo_S512x4096_S512_d1 h_S_)

def rowRest (X : FVec F S512x4096 .f32) (y : FVec F S512x1 .f32) : FVec F S512x4096 .f32 :=
  fn_where_0 (cmpf .olt X (broadcastInDim S512x4096 ![0, 1] bcast_S512x1_S512x4096_0_1 y)) X (constant S_ .f32 0xFF800000#32)

/-- The `k`-th round over the rows. -/
def rows (X : FVec F S512x4096 .f32) : ℕ → FVec F S512x1 .f32
  | 0 => rowTop X
  | k + 1 => rowTop (rowRest X (rows X k))

def laneTop (X : FVec F S512x32x128 .f32) : FVec F S512x1x128 .f32 :=
  broadcastInDim S512x1x128 ![0, 2] bcast_S512x128_S512x1x128_0_2
    (Host.reduce FloatOps.maximumf X (constant S_ .f32 0xFF800000#32) reducesTo_S512x32x128_S512x128_d1 h_S_)

def laneRest (X : FVec F S512x32x128 .f32) (y : FVec F S512x1x128 .f32) : FVec F S512x32x128 .f32 :=
  fn_where (cmpf .olt X (broadcastInDim S512x32x128 ![0, 1, 2] bcast_S512x1x128_S512x32x128_0_1_2 y)) X (constant S_ .f32 0xFF800000#32)

/-- The `k`-th round over the lanes. -/
def lanes (X : FVec F S512x32x128 .f32) : ℕ → FVec F S512x1x128 .f32
  | 0 => laneTop X
  | k + 1 => laneTop (laneRest X (lanes X k))

theorem fn_eq (x : FVec F S512x4096 .f32) :
    fn x = ori
      (cmpf .olt (shapeCast S512x128 (lanes (shapeCast S512x32x128 x shapeCasts_S512x4096_S512x32x128) 4) shapeCasts_S512x1x128_S512x128)
        (broadcastInDim S512x128 ![0, 1] bcast_S512x1_S512x128_0_1 (rows x 15)))
      (cmpf .oeq (shapeCast S512x128 (lanes (shapeCast S512x32x128 x shapeCasts_S512x4096_S512x32x128) 4) shapeCasts_S512x1x128_S512x128)
        (broadcastInDim S512x128 ![] bcast_S_S512x128 (constant S_ .f32 0xFF800000#32))) := rfl

end

theorem rowTop_apply (X : FVec Ideal S512x4096 .f32) (r : Fin 512) (z : Fin 1) :
    rowTop X (ix2 r z) = Finset.univ.fold max ⊥ fun l : Fin 4096 => X (ix2 r l) := by
  unfold rowTop
  rw [hostReduce_maximumf_eq_multiReduction X 0xFF800000#32 _ _ (by decide) (.inl rfl) rfl]
  pointwise
  rfl

theorem laneTop_apply (X : FVec Ideal S512x32x128 .f32) (r : Fin 512) (z : Fin 1) (i : Fin 128) :
    laneTop X (ix3 r z i) = Finset.univ.fold max ⊥ fun g : Fin 32 => X (ix3 r g i) := by
  unfold laneTop
  rw [hostReduce_maximumf_eq_multiReduction X 0xFF800000#32 _ _ (by decide) (.inl rfl) rfl]
  pointwise
  rfl

theorem rows_apply (X : FVec Ideal S512x4096 .f32) (k : ℕ) (r : Fin 512) (z : Fin 1) :
    rows X k (ix2 r z) = nth (Set.range fun l : Fin 4096 => X (ix2 r l)) k := by
  induction k generalizing z with
  | zero => exact (rowTop_apply _ _ _).trans (sup_eq_nth_zero _)
  | succ k ih =>
    refine (rowTop_apply _ _ _).trans ?_
    pointwise [rowRest, fn_where_0]
    rw [ih]
    exact sup_below (fun l : Fin 4096 => X (ix2 r l)) k

theorem lanes_apply (X : FVec Ideal S512x32x128 .f32) (k : ℕ) (r : Fin 512) (z : Fin 1) (i : Fin 128) :
    lanes X k (ix3 r z i) = nth (Set.range fun g : Fin 32 => X (ix3 r g i)) k := by
  induction k generalizing z with
  | zero => exact (laneTop_apply _ _ _ _).trans (sup_eq_nth_zero _)
  | succ k ih =>
    refine (laneTop_apply _ _ _ _).trans ?_
    pointwise [laneRest, fn_where]
    rw [ih]
    exact sup_below (fun g : Fin 32 => X (ix3 r g i)) k

theorem fifth_apply (x : FVec Ideal S512x4096 .f32) (r : Fin 512) (i : Fin 128) :
    lanes (shapeCast S512x32x128 x shapeCasts_S512x4096_S512x32x128) 4 (ix3 r 0 i) = nth (lane x r i) 4 := by
  have e : ∀ g : Fin 32, shapeCast S512x32x128 x shapeCasts_S512x4096_S512x32x128 (ix3 r g i) = x (ix2 r ⟨g * 128 + i, by omega⟩) := by
    intro g
    pointwise
  rw [lanes_apply]
  simp only [e]
  rfl

theorem last_apply (x : FVec Ideal S512x4096 .f32) (r : Fin 512) : rows x 15 (ix2 r 0) = nth (rowOf x r) 15 := by
  rw [rows_apply]
  rfl

theorem of_or {a b c : EReal} [Decidable (a < b)] [Decidable (a = c)]
    (h : IntOp.ori (BitVec.ofBool (decide (a < b))) (BitVec.ofBool (decide (a = c))) = 1#1) : a < b ∨ a = c := by
  by_contra hn
  rw [not_or] at hn
  rw [decide_eq_false hn.1, decide_eq_false hn.2] at h
  exact absurd h (by decide)

theorem or_apply (v : FVec Ideal S512x1x128 .f32) (w : FVec Ideal S512x1 .f32) (r : Fin 512) (i : Fin 128)
    (h : ori (cmpf .olt (shapeCast S512x128 v shapeCasts_S512x1x128_S512x128) (broadcastInDim S512x128 ![0, 1] bcast_S512x1_S512x128_0_1 w))
      (cmpf .oeq (shapeCast S512x128 v shapeCasts_S512x1x128_S512x128)
        (broadcastInDim S512x128 ![] bcast_S_S512x128 (constant S_ .f32 0xFF800000#32))) (ix2 r i) = 1#1) :
    v (ix3 r 0 i) < w (ix2 r 0) ∨ v (ix3 r 0 i) = ⊥ := by
  pointwise at h
  exact of_or h

/-- Where the predicate is true everywhere, no lane holds more than four of a row's sixteen largest different values. -/
theorem fourPerLane_of_fn (x : FVec Ideal S512x4096 .f32) (h : fn x = fun _ => 1#1) : FourPerLane x := by
  intro r i
  have h1 := congrFun h (ix2 r i)
  rw [fn_eq] at h1
  have h2 := or_apply _ _ r i h1
  rwa [fifth_apply, last_apply] at h2

end Cert.KernelIdealProof.Spread
-- ==== Proof.Steps.lean ====
/-
# One lemma per kind of step

What each signal, copy, wait and load of the kernel does to the resources of the protocol: the payloads as they are paid
by a peer, the barrier signal, the remote copy, the two kinds of DMA wait, and the load of a slot.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## Payloads as a peer pays them -/

omit [FloatOps F] [Named F] in
/-- What `c` hands over with its signal to `pe i c`: its own slot `i`. -/
theorem barPay_peer (c : Dev nD) (i : Fin 3) :
    barPay (F := F) (pe i c) (op i) = iprop((∃ f, slotPts c i f) ∗ reached ER (recvCell c i) 0) := by
  unfold barPay; rw [pe_op, op_op]

/-! ## The geometry of the slots -/

theorem slotM_set (s : Fin 3) : (slotM s).view.set = (rM : Memref sig .tc .vmem S3x512x16 .f32).view.setOn (slotR s).set :=
  (Memref.set_view_squeeze _ _).trans (View.set_slice _ _)

/-- A load of a slot's rectangle reads the slot's elements. -/
theorem slot_load_sub (s : Fin 3) :
    (rM : Memref sig .tc .vmem S3x512x16 .f32).view.setOn (slotR s).toLoadRect.set ⊆ (slotM s).view.set := by
  rw [slotM_set]

omit [FloatOps F] [Named F] in
theorem casts_back (w : Vec F S1x512x16 .f32) (v : Vec F S512x16 .f32) (hc : S1x512x16.ShapeCasts S512x16)
    (h : shapeCast S512x16 w hc = v) : w = shapeCast S1x512x16 v casts_up := by
  subst h; exact (shapeCast_shapeCast w hc casts_up).symm

omit [FloatOps F] [Named F] in
/-- A load of a slot's rectangle reads the slot's contents as one slab. -/
theorem read_slot (s : Fin 3) (v : Vec F S512x16 .f32) (f : (cc0_scratch1 : Ref sig .tc).ty.Contents (Elt F))
    (h : (slotM s).view.read (Elt F) f = v) :
    (rM : Memref sig .tc .vmem S3x512x16 .f32).view.readAt (Elt F) (slotR s).toLoadRect f = (shapeCast S1x512x16 v casts_up : Vec F S1x512x16 .f32) :=
  casts_back _ v shapeCasts_S1x512x16_S512x16 h

theorem slot_off0 (s : Fin 3) : slotOff s 0 = s.val := by fin_cases s <;> rfl

/-- An index of the receive buffer is in slot `s` when its first coordinate is `s`. -/
theorem mem_slot (s : Fin 3) (i : S3x512x16.Idx) : i ∈ (slotR s).set ↔ (i 0).val = s.val := by
  rw [LoadRect.mem_set]
  constructor
  · intro h
    obtain ⟨j, hj, e⟩ := h 0
    have hj' : j < 1 := hj
    have e' : (i 0).val = slotOff s 0 + 1 * j := e
    rw [slot_off0] at e'; omega
  · intro h a
    have h1 : (i 1).val < 512 := (i 1).isLt
    have h2 : (i 2).val < 16 := (i 2).isLt
    fin_cases a
    · refine ⟨0, Nat.one_pos, ?_⟩
      show (i 0).val = slotOff s 0 + 1 * 0
      rw [slot_off0]; omega
    · refine ⟨(i 1).val, h1, ?_⟩
      show (i 1).val = slotOff s 1 + 1 * (i 1).val
      fin_cases s <;> simp
    · refine ⟨(i 2).val, h2, ?_⟩
      show (i 2).val = slotOff s 2 + 1 * (i 2).val
      fin_cases s <;> simp

/-- Different slots share no element, -/
theorem slot_disjoint (b b' : Fin 3) (h : b ≠ b') : Disjoint (slotM b).view.set (slotM b').view.set := by
  rw [slotM_set, slotM_set]
  refine (Finset.disjoint_map _).2 (Finset.disjoint_left.2 fun i hi hi' => h (Fin.ext ?_))
  rw [mem_slot] at hi hi'
  exact hi.symm.trans hi'

/-- The elements of slot `s`, as elements of the receive buffer; -/
def slotSet (s : Fin 3) : Finset S3x512x16.Idx := (slotM s).view.set

/-- together the slots are the receive buffer. -/
theorem slot_cover : Finset.univ.biUnion slotSet = Finset.univ := by
  refine Finset.eq_univ_of_forall fun i => ?_
  rw [Finset.mem_biUnion]
  have h0 : (i 0).val < 3 := (i 0).isLt
  refine ⟨⟨(i 0).val, h0⟩, Finset.mem_univ _, ?_⟩
  unfold slotSet
  rw [slotM_set]
  exact Finset.mem_map.2 ⟨i, (mem_slot _ i).2 rfl, rfl⟩

section Steps

variable (K : Dev nD × Fin 7 → ℕ)

/-- The signal to `pe i c`'s barrier cell: duty `op i`, with `c`'s slot `i`. -/
theorem wp_sig (c n : Dev nD) (i : Fin 3) (hn : n = pe i c) {α : Type} {Q : α → sProp 𝕄} {k : PUnit → Prog (TpuEff nD τ sig (Elt F) Λ₀ .tc) α}
    {k' : ℤ} (hk : k' = 1) (O O' : CellTallies nD τ sig Unit) (hO : O' = O + tallyAt (barCell (pe i c)) () 1) (W : Waits sig Unit) :
    iprop(cellInv ER (rd m ρ) (K (pe i c, 0)) (barCell (pe i c)) ∗ owes (c : Thread nD τ) O' W ∗ dutyTok ER (barCell (pe i c)) 0 (op i)
        ∗ ((∃ f, slotPts c i f) ∗ reached ER (recvCell c i) 0) ∗ reached ER (barCell (pe i c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk
  rw [← barPay_peer]
  exact Rounds.wp_signal 𝒱₀ ER (rd m ρ) (c : Thread nD τ) none (dst := (pe i c : Thread nD τ)) (κ := K (pe i c, 0))
      (d := op i) (by rw [duties_bar]; exact Finset.mem_univ _) (amount_bar m ρ (pe i c) (op i)) () O hO

/-- The copy to `pe i c`, into its slot `op i`: the share of the send buffer lent comes back at the send semaphore `op i`,
    the slot filled at the receive semaphore `op i` over there. -/
theorem wp_copy (c n : Dev nD) (i : Fin 3) (hn : n = pe i c) {M : Memref sig .tc .vmem S512x16 .f32} (hM : M = slotM (op i)) {q₁ q₂ : DmaSem sig}
    (hq₁ : q₁ = sndQ (op i)) (hq₂ : q₂ = rcvQ (op i))
    {hsc : (M : Memref sig (Dev.tc n : Thread nD τ).2.kind .vmem S512x16 .f32).view.ref.isScScratch = false}
    {hsrc : (sM : Memref sig .tc .vmem S512x16 .f32).view.WordExact} {hdst : M.view.WordExact}
    {hsem : DmaTarget.Typed .vmem (.dma q₂) (.remote (Dev.tc n : Thread nD τ) M (.dma q₁) hsc)}
    {α : Type} {Q : α → sProp 𝕄} {k : PUnit → Prog (TpuEff nD τ sig (Elt F) Λ₀ .tc) α}
    (O O' : CellTallies nD τ sig Unit) (hO : O' = O + tallyAt (recvCell (pe i c) (op i)) () N) (W : Waits sig Unit)
    (fn : Buf (Elt F) ((slotM (op i)).view.loc (pe i c : Thread nD τ))) :
    iprop(cellInv ER (rd m ρ) (K (c, kS (op i))) (sendCell c (op i)) ∗ cellInv ER (rd m ρ) (K (pe i c, kR (op i))) (recvCell (pe i c) (op i))
        ∗ sendPts c (Ring.shares3 fullShare (op i)) (sent m ρ c) ∗ slotPts (pe i c) (op i) fn
        ∗ owes (c : Thread nD τ) O' W
        ∗ dutyTok ER (sendCell c (op i)) 0 0 ∗ reached ER (sendCell c (op i)) 0
        ∗ dutyTok ER (recvCell (pe i c) (op i)) 0 0 ∗ reached ER (recvCell (pe i c) (op i)) 0)
      ⊢ iprop(((cred (tallyAt (sendCell c (op i)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) M (.dma q₁) hsc) (.dma q₂) hsrc hdst hsem) k) Q) := by
  subst hn; subst hM; subst hq₁; subst hq₂
  unfold sendPts slotPts
  exact Rounds.wp_send_pointsTo 𝒱₀ ER (rd m ρ) (c : Thread nD τ) none (κ₁ := K (c, kS (op i))) (κ₂ := K (pe i c, kR (op i)))
    (r₁ := 0) (r₂ := 0) (d₁ := 0) (d₂ := 0) (fd := fn)
    (by rw [duties_send]; exact Finset.mem_singleton_self _) (by rw [duties_recv]; exact Finset.mem_singleton_self _)
    () () N (show (slotM (op i)).view.amount (.dma (rcvQ (op i))) = N from slot_credit (op i)) (amount_send m ρ c (op i) 0) (amount_recv m ρ (pe i c) (op i) 0) O hO (W := W)
    (by rw [payload_send]; exact BI.Entails.refl _)
    (by
      rw [payload_recv]; unfold recvPay slotPts
      iintro H
      iexists ((slotM (op i)).view.write (Elt F) fn ((sM : Memref sig .tc .vmem S512x16 .f32).view.read (Elt F) (sent m ρ c)) Finset.univ)
      isplitr
      · ipureintro
        rw [View.read_write_univ, pe_op]
        exact View.read_whole _ _
      · iexact H)

/-- The wait on the send semaphore `s`: its share of the send buffer back. -/
theorem wp_wait_snd (c : Dev nD) (s : Fin 3) {q : DmaSem sig} (hq : q = sndQ s) {M : Memref sig .tc .vmem S512x16 .f32}
    {h1 : M.view.WordExact} {h2 : (sM : Memref sig .tc .vmem S512x16 .f32).view.WordExact}
    {α : Type} {Q : α → sProp 𝕄} {k : PUnit → Prog (TpuEff nD τ sig (Elt F) Λ₀ .tc) α} (W : Waits sig Unit) :
    iprop(cellInv ER (rd m ρ) (K (c, kS s)) (sendCell c s) ∗ cred (tallyAt (sendCell c s) () N) ∗ owes (c : Thread nD τ) 0 W ∗ atPos ER (sendCell c s) 0 ∅ 0)
      ⊢ iprop(((∃ W', owes (c : Thread nD τ) 0 W') ∗ atPos ER (sendCell c s) 1 ∅ 0 ∗ sendPts c (Ring.shares3 fullShare s) (sent m ρ c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q M sM h1 h2) k) Q) := by
  subst hq
  iintro ⟨#HI, Hc, HO, Hat⟩ Hk
  iapply (Rounds.wp_wait_rest_token 𝒱₀ ER (rd m ρ) (c : Thread nD τ) none (κ := K (c, kS s))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c s)) $$ Hpay
  iapply Hk
  isplitl [HO]; · iexists _; iexact HO
  isplitl [Hat]; · iexact Hat
  unfold sendPay; iexact Hp

/-- The wait on the receive semaphore `s`: slot `s` filled. -/
theorem wp_wait_rcv (c : Dev nD) (s : Fin 3) {q : DmaSem sig} (hq : q = rcvQ s) {M : Memref sig .tc .vmem S512x16 .f32} (hM : M = slotM s)
    {h1 : (sM : Memref sig .tc .vmem S512x16 .f32).view.WordExact} {h2 : M.view.WordExact}
    {α : Type} {Q : α → sProp 𝕄} {k : PUnit → Prog (TpuEff nD τ sig (Elt F) Λ₀ .tc) α} (W : Waits sig Unit) :
    iprop(cellInv ER (rd m ρ) (K (c, kR s)) (recvCell c s) ∗ cred (tallyAt (recvCell c s) () N) ∗ owes (c : Thread nD τ) 0 W ∗ atPos ER (recvCell c s) 0 ∅ 0)
      ⊢ iprop(((∃ W', owes (c : Thread nD τ) 0 W') ∗ atPos ER (recvCell c s) 1 ∅ 0 ∗ recvPay m ρ c s
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sM M h1 h2) k) Q) := by
  subst hq; subst hM
  iintro ⟨#HI, Hc, HO, Hat⟩ Hk
  iapply (Rounds.wp_wait_rest_token 𝒱₀ ER (rd m ρ) (c : Thread nD τ) none (κ := K (c, kR s)) (k' := (slotM s).view.dmaCredit)
      (wpE_waitDma2_eq 𝒱₀ (c : Thread nD τ) none Set.univ) (Set.mem_univ _) () (O := 0) (W := W) (R := 0) (m := 0) (T := ∅)
      (by rw [Nat.zero_add, expect_recv, slot_credit])) $$ [Hc HO Hat]
  · isplitr; · iexact HI
    isplitl [Hc]; · rw [slot_credit]; iexact Hc
    isplitl [HO]; · iexact HO
    isplitr; · rw [MayWait_zero]; iempintro
    iexact Hat
  iintro ⟨HO, Hat, -, Hpay⟩
  ihave Hp := (Entails.of_eq (rest_recv m ρ c s)) $$ Hpay
  iapply Hk
  isplitl [HO]; · iexists _; iexact HO
  isplitl [Hat]; · iexact Hat
  iexact Hp

end Steps

end Cert.KernelIdealProof

end
-- ==== Proof.Body.lean ====
/-
# The kernel's body on one device

The body run once, at a symbolic device `c`: from its share of the protocol's resources and its staged block to its
result window at `outAt c`, every cell closed at zero.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts from and ends with -/

/-- The cells' invariants device `c`'s body opens, under the names `K` they were allocated at: its own seven, the three
    others' barrier cells (its signals) and the receive cells its copies count on. -/
def invs (K : Dev nD × Fin 7 → ℕ) (c : Dev nD) : sProp 𝕄 :=
  iprop((cellInv ER (rd m ρ) (K (c, 0)) (barCell c)
      ∗ cellInv ER (rd m ρ) (K (c, 1)) (sendCell c 0) ∗ cellInv ER (rd m ρ) (K (c, 2)) (sendCell c 1) ∗ cellInv ER (rd m ρ) (K (c, 3)) (sendCell c 2)
      ∗ cellInv ER (rd m ρ) (K (c, 4)) (recvCell c 0) ∗ cellInv ER (rd m ρ) (K (c, 5)) (recvCell c 1) ∗ cellInv ER (rd m ρ) (K (c, 6)) (recvCell c 2))
    ∗ (cellInv ER (rd m ρ) (K (pe 0 c, 0)) (barCell (pe 0 c)) ∗ cellInv ER (rd m ρ) (K (pe 1 c, 0)) (barCell (pe 1 c))
      ∗ cellInv ER (rd m ρ) (K (pe 2 c, 0)) (barCell (pe 2 c)))
    ∗ (cellInv ER (rd m ρ) (K (pe 0 c, 6)) (recvCell (pe 0 c) 2) ∗ cellInv ER (rd m ρ) (K (pe 1 c, 5)) (recvCell (pe 1 c) 1)
      ∗ cellInv ER (rd m ρ) (K (pe 2 c, 4)) (recvCell (pe 2 c) 0)))

instance invs_persistent (K : Dev nD × Fin 7 → ℕ) (c : Dev nD) : BI.Persistent (invs m ρ K c) := by unfold invs; infer_instance

/-- Its positions at round 0 of its seven cells. -/
def poss (c : Dev nD) : sProp 𝕄 :=
  iprop(atPos ER (barCell c) 0 ∅ 0 ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- That the cells it pays are at round 0: the three others' barrier cells, its own send cells; and its own receive cells,
    which it tells the others. -/
def marks (c : Dev nD) : sProp 𝕄 :=
  iprop((reached ER (barCell (pe 0 c)) 0 ∗ reached ER (barCell (pe 1 c)) 0 ∗ reached ER (barCell (pe 2 c)) 0)
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0))

instance marks_persistent (c : Dev nD) : BI.Persistent (marks (F := F) c) := by unfold marks; infer_instance

/-- The tokens of the duties it pays: the three others' barrier duties, its own send duties, the receive duties of its copies. -/
def payToks (c : Dev nD) : sProp 𝕄 :=
  iprop((dutyTok ER (barCell (pe 0 c)) 0 2 ∗ dutyTok ER (barCell (pe 1 c)) 0 1 ∗ dutyTok ER (barCell (pe 2 c)) 0 0)
    ∗ (dutyTok ER (sendCell c 0) 0 0 ∗ dutyTok ER (sendCell c 1) 0 0 ∗ dutyTok ER (sendCell c 2) 0 0)
    ∗ (dutyTok ER (recvCell (pe 0 c) 2) 0 0 ∗ dutyTok ER (recvCell (pe 1 c) 1) 0 0 ∗ dutyTok ER (recvCell (pe 2 c) 0) 0 0))

/-- The protocol's resources device `c` starts from. -/
def ghost (K : Dev nD × Fin 7 → ℕ) (c : Dev nD) : sProp 𝕄 :=
  iprop(invs m ρ K c ∗ marks c ∗ poss c ∗ payToks c)

/-- Its credit tokens: three units of its barrier, a copy's credit on each of its receive cells. -/
def credsOf (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m ρ K c) ∗ credsOf c ∗ levAts L lv)

/-- The two scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers, and every cell of the protocol closed at zero. -/
def Φ₁ (c : Dev nD) : sProp 𝕄 :=
  iprop(scratch c ∗ (semVal (sendCell c 0) 0 ∗ semVal (sendCell c 1) 0 ∗ semVal (sendCell c 2) 0
    ∗ semVal (recvCell c 0) 0 ∗ semVal (recvCell c 1) 0 ∗ semVal (recvCell c 2) 0) ∗ semVal (barCell c) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] [Named F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The scratch buffers, whole and in parts -/

omit [FloatOps F] [Named F] in
theorem sendPts_eq (c : Dev nD) (q : PosShare TreeShare) (f : Buf (Elt F) ((c : Thread nD τ).loc cc0_scratch0)) :
    sendPts c q f = (((c : Thread nD τ).loc cc0_scratch0) ↦{q} f : sProp 𝕄) := by unfold sendPts; rw [View.set_whole]

omit [FloatOps F] [Named F] in
theorem slots_split (c : Dev nD) (f : Buf (Elt F) ((c : Thread nD τ).loc cc0_scratch1)) :
    (((c : Thread nD τ).loc cc0_scratch1) ↦{fullShare} f : sProp 𝕄) ⊢ iprop((∃ f, slotPts c 0 f) ∗ (∃ f, slotPts c 1 f) ∗ ∃ f, slotPts c 2 f) := by
  rw [Ring.pointsTo_blocks (ℓ := (c : Thread nD τ).loc cc0_scratch1) slotSet slot_disjoint slot_cover, bigSep_univ_eq_bigSepL [(0 : Fin 3), 1, 2] (by decide) (by decide)]
  show iprop(slotPts c 0 f ∗ slotPts c 1 f ∗ slotPts c 2 f) ⊢ _
  iintro ⟨H0, H1, H2⟩
  isplitl [H0]; · iexists f; iexact H0
  isplitl [H1]; · iexists f; iexact H1
  iexists f; iexact H2

omit [FloatOps F] [Named F] in
theorem slots_join (c : Dev nD) (f g h : Buf (Elt F) ((c : Thread nD τ).loc cc0_scratch1)) :
    iprop(slotPts c 0 f ∗ slotPts c 1 g ∗ slotPts c 2 h)
      ⊢ (iprop(∃ f : Buf (Elt F) ((c : Thread nD τ).loc cc0_scratch1), ((c : Thread nD τ).loc cc0_scratch1) ↦{fullShare} f) : sProp 𝕄) := by
  refine BIBase.Entails.trans ?_ (Ring.pointsTo_blocks_join_exists (ℓ := (c : Thread nD τ).loc cc0_scratch1) slotSet slot_disjoint slot_cover f)
  rw [bigSep_univ_eq_bigSepL [(0 : Fin 3), 1, 2] (by decide) (by decide)]
  show _ ⊢ iprop((∃ f, slotPts c 0 f) ∗ (∃ f, slotPts c 1 f) ∗ ∃ f, slotPts c 2 f)
  iintro ⟨H0, H1, H2⟩
  isplitl [H0]; · iexists f; iexact H0
  isplitl [H1]; · iexists g; iexact H1
  iexists h; iexact H2

omit [FloatOps F] [Named F] in
theorem thirds_split (c : Dev nD) (f : Buf (Elt F) ((c : Thread nD τ).loc cc0_scratch0)) :
    (((c : Thread nD τ).loc cc0_scratch0) ↦{fullShare} f : sProp 𝕄)
      ⊢ iprop(sendPts c (Ring.shares3 fullShare 0) f ∗ sendPts c (Ring.shares3 fullShare 1) f ∗ sendPts c (Ring.shares3 fullShare 2) f) := by
  rw [sendPts_eq, sendPts_eq, sendPts_eq]; exact (Ring.pointsTo_thirds fullShare f).1
omit [FloatOps F] [Named F] in
theorem thirds_join (c : Dev nD) (f : Buf (Elt F) ((c : Thread nD τ).loc cc0_scratch0)) :
    iprop(sendPts c (Ring.shares3 fullShare 0) f ∗ sendPts c (Ring.shares3 fullShare 1) f ∗ sendPts c (Ring.shares3 fullShare 2) f)
      ⊢ (((c : Thread nD τ).loc cc0_scratch0) ↦{fullShare} f : sProp 𝕄) := by
  rw [sendPts_eq, sendPts_eq, sendPts_eq]; exact (Ring.pointsTo_thirds fullShare f).2

/-! ## Reads and writes of whole buffers -/

omit [FloatOps F] [Named F] in
theorem hz : (![0, 0] : Fin 2 → Nat) = fun _ => 0 := funext fun a => by fin_cases a <;> rfl
abbrev rX : Rect S512x4096 := Rect.unit (s := S512x4096) ![0, 0] S512x4096.size inb_S512x4096_S512x4096_0_0
abbrev rO : Rect S512x16 := Rect.unit (s := S512x16) ![0, 0] S512x16.size inb_S512x16_S512x16_0_0
omit [FloatOps F] [Named F] in
theorem read_x (f : (cc0_stg0_0 : Ref sig .tc).ty.Contents (Elt F)) : (xM : Memref sig .tc .vmem S512x4096 .f32).view.readAt (Elt F) rX.toLoadRect f = f :=
  Memref.readAt_unit_zero (Elt F) cc0_stg0_0 hz _ f
omit [FloatOps F] [Named F] in
theorem write_out (f w : (cc0_stg1_0 : Ref sig .tc).ty.Contents (Elt F)) :
    ((oM : Memref sig .tc .vmem S512x16 .f32).access rO : View sig .tc _ _ _).write (Elt F) f w Finset.univ = w :=
  Memref.write_access_unit_zero_univ (Elt F) cc0_stg1_0 hz _ f w
omit [FloatOps F] [Named F] in
theorem write_send (f w : (cc0_scratch0 : Ref sig .tc).ty.Contents (Elt F)) :
    ((sM : Memref sig .tc .vmem S512x16 .f32).access rO : View sig .tc _ _ _).write (Elt F) f w Finset.univ = w :=
  Memref.write_access_unit_zero_univ (Elt F) cc0_scratch0 hz _ f w

/-! ## The run of the body -/

section Body

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credsOf c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxRecDepth 8000 in
set_option maxHeartbeats 4000000 in
/-- The body, symbolically executed from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  rw [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold bodyPre ghost invs marks poss payToks credsOf scratch
  iintro ⟨⟨⟨⟨⟨⟨#HIb, #HIs0, #HIs1, #HIs2, #HIr0, #HIr1, #HIr2⟩, ⟨#HIb0, #HIb1, #HIb2⟩, #HIp0, #HIp1, #HIp2⟩,
      ⟨⟨#HRb0, #HRb1, #HRb2⟩, ⟨#HRs0, #HRs1, #HRs2⟩, #HRr0, #HRr1, #HRr2⟩,
      ⟨HaB, HaS0, HaS1, HaS2, HaR0, HaR1, HaR2⟩, ⟨HtB0, HtB1, HtB2⟩, ⟨HtS0, HtS1, HtS2⟩, HtR0, HtR1, HtR2⟩,
      ⟨HcB, HcR0, HcR1, HcR2⟩, #Hlev, ⟨%fs, Hs⟩, ⟨%fr, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hr' := (slots_split c fr) $$ Hr
  icases Hr' with ⟨Hr0, Hr1, Hr2⟩
  -- the three signals, each with the slot its receiver writes
  iapply (wp_sig m ρ K c _ 0 (dev1_eq c) rfl (OB1 c) (O₀ c) rfl W) $$ [HO HtB0 Hr0]
  · isplitr; · iexact HIb0
    isplitl [HO]; · iexact HO
    isplitl [HtB0]; · iexact HtB0
    isplitl [Hr0]
    · isplitl [Hr0]; · iexact Hr0
      iexact HRr0
    iexact HRb0
  iintro HO
  iapply (wp_sig m ρ K c _ 1 (dev2_eq c) rfl (OB2 c) (OB1 c) rfl W) $$ [HO HtB1 Hr1]
  · isplitr; · iexact HIb1
    isplitl [HO]; · iexact HO
    isplitl [HtB1]; · iexact HtB1
    isplitl [Hr1]
    · isplitl [Hr1]; · iexact Hr1
      iexact HRr1
    iexact HRb1
  iintro HO
  iapply (wp_sig m ρ K c _ 2 (dev3_eq c) rfl (OC0 c) (OB2 c) rfl W) $$ [HO HtB2 Hr2]
  · isplitr; · iexact HIb2
    isplitl [HO]; · iexact HO
    isplitl [HtB2]; · iexact HtB2
    isplitl [Hr2]
    · isplitl [Hr2]; · iexact Hr2
      iexact HRr2
    iexact HRb2
  iintro HO
  -- the wait for three units: the three others' slots
  iapply (Rounds.wp_wait_rest_token 𝒱₀ ER (rd m ρ) (c : Thread nD τ) none (κ := K (c, 0))
      (wpE_semWait_eq 𝒱₀ (c : Thread nD τ) none Set.univ) (Set.mem_univ _) () (O := OC0 c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn0, Hn0⟩, #HRp0⟩, ⟨⟨%fn1, Hn1⟩, #HRp1⟩, ⟨%fn2, Hn2⟩, #HRp2⟩
  -- the load of the block, the store of the local result
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := rO) (Mk := Finset.univ) (Finset.subset_univ _)) $$ Hs; iintro Hs
  rw [write_send]
  ihave Hs' := (thirds_split c (sent m ρ c)) $$ [Hs]
  · iexact Hs
  icases Hs' with ⟨Hs0, Hs1, Hs2⟩
  -- the three copies
  iapply (wp_copy m ρ K c _ 0 (dev4_eq c) rfl rfl rfl (OC1 c) (OC0 c) rfl (insert (SemLoc.reg barS, ()) W) fn0) $$ [Hs2 Hn0 HO HtS2 HtR0]
  · isplitr; · iexact HIs2
    isplitr; · iexact HIp0
    isplitl [Hs2]; · iexact Hs2
    isplitl [Hn0]; · iexact Hn0
    isplitl [HO]; · iexact HO
    isplitl [HtS2]; · iexact HtS2
    isplitr; · iexact HRs2
    isplitl [HtR0]; · iexact HtR0
    iexact HRp0
  iintro ⟨HcS2, HO⟩
  iapply (wp_copy m ρ K c _ 1 (dev5_eq c) rfl rfl rfl (OC2 c) (OC1 c) rfl (insert (SemLoc.reg barS, ()) W) fn1) $$ [Hs1 Hn1 HO HtS1 HtR1]
  · isplitr; · iexact HIs1
    isplitr; · iexact HIp1
    isplitl [Hs1]; · iexact Hs1
    isplitl [Hn1]; · iexact Hn1
    isplitl [HO]; · iexact HO
    isplitl [HtS1]; · iexact HtS1
    isplitr; · iexact HRs1
    isplitl [HtR1]; · iexact HtR1
    iexact HRp1
  iintro ⟨HcS1, HO⟩
  iapply (wp_copy m ρ K c _ 2 (dev6_eq c) rfl rfl rfl 0 (OC2 c) (by unfold OC2; rw [zero_add]) (insert (SemLoc.reg barS, ()) W) fn2) $$ [Hs0 Hn2 HO HtS0 HtR2]
  · isplitr; · iexact HIs0
    isplitr; · iexact HIp2
    isplitl [Hs0]; · iexact Hs0
    isplitl [Hn2]; · iexact Hn2
    isplitl [HO]; · iexact HO
    isplitl [HtS0]; · iexact HtS0
    isplitr; · iexact HRs0
    isplitl [HtR2]; · iexact HtR2
    iexact HRp2
  iintro ⟨HcS0, HO⟩
  -- the waits on the send semaphores: the send buffer back
  iapply (wp_wait_snd m ρ K c 2 rfl _) $$ [HcS2 HO HaS2]
  · isplitr; · iexact HIs2
    isplitl [HcS2]; · iexact HcS2
    isplitl [HO] <;> iassumption
  iintro ⟨⟨%W2, HO⟩, HaS2, Hs2⟩
  iapply (wp_wait_snd m ρ K c 1 rfl _) $$ [HcS1 HO HaS1]
  · isplitr; · iexact HIs1
    isplitl [HcS1]; · iexact HcS1
    isplitl [HO] <;> iassumption
  iintro ⟨⟨%W3, HO⟩, HaS1, Hs1⟩
  iapply (wp_wait_snd m ρ K c 0 rfl _) $$ [HcS0 HO HaS0]
  · isplitr; · iexact HIs0
    isplitl [HcS0]; · iexact HcS0
    isplitl [HO] <;> iassumption
  iintro ⟨⟨%W4, HO⟩, HaS0, Hs0⟩
  -- the waits on the receive semaphores: the slots filled
  iapply (wp_wait_rcv m ρ K c 2 rfl rfl _) $$ [HcR2 HO HaR2]
  · isplitr; · iexact HIr2
    isplitl [HcR2]; · iexact HcR2
    isplitl [HO] <;> iassumption
  iintro ⟨⟨%W5, HO⟩, HaR2, Hp2⟩
  iapply (wp_wait_rcv m ρ K c 1 rfl rfl _) $$ [HcR1 HO HaR1]
  · isplitr; · iexact HIr1
    isplitl [HcR1]; · iexact HcR1
    isplitl [HO] <;> iassumption
  iintro ⟨⟨%W6, HO⟩, HaR1, Hp1⟩
  iapply (wp_wait_rcv m ρ K c 0 rfl rfl _) $$ [HcR0 HO HaR0]
  · isplitr; · iexact HIr0
    isplitl [HcR0]; · iexact HcR0
    isplitl [HO] <;> iassumption
  iintro ⟨⟨%W7, HO⟩, HaR0, Hp0⟩
  unfold recvPay slotPts
  icases Hp0 with ⟨%f0, %h0, Hr0⟩
  icases Hp1 with ⟨%f1, %h1, Hr1⟩
  icases Hp2 with ⟨%f2, %h2, Hr2⟩
  -- the seven cells close
  imod (Rounds.cell_close ER (rd m ρ) (Set.mem_univ (K (c, 1))) (fun h => h) (R := 1) (duties_later m ρ (sendCell c 0))) $$ [HaS0] with HzS0
  · isplitr; · iexact HIs0
    iexact HaS0
  imod (Rounds.cell_close ER (rd m ρ) (Set.mem_univ (K (c, 2))) (fun h => h) (R := 1) (duties_later m ρ (sendCell c 1))) $$ [HaS1] with HzS1
  · isplitr; · iexact HIs1
    iexact HaS1
  imod (Rounds.cell_close ER (rd m ρ) (Set.mem_univ (K (c, 3))) (fun h => h) (R := 1) (duties_later m ρ (sendCell c 2))) $$ [HaS2] with HzS2
  · isplitr; · iexact HIs2
    iexact HaS2
  imod (Rounds.cell_close ER (rd m ρ) (Set.mem_univ (K (c, 4))) (fun h => h) (R := 1) (duties_later m ρ (recvCell c 0))) $$ [HaR0] with HzR0
  · isplitr; · iexact HIr0
    iexact HaR0
  imod (Rounds.cell_close ER (rd m ρ) (Set.mem_univ (K (c, 5))) (fun h => h) (R := 1) (duties_later m ρ (recvCell c 1))) $$ [HaR1] with HzR1
  · isplitr; · iexact HIr1
    iexact HaR1
  imod (Rounds.cell_close ER (rd m ρ) (Set.mem_univ (K (c, 6))) (fun h => h) (R := 1) (duties_later m ρ (recvCell c 2))) $$ [HaR2] with HzR2
  · isplitr; · iexact HIr2
    iexact HaR2
  imod (Rounds.cell_close ER (rd m ρ) (Set.mem_univ (K (c, 0))) (fun h => h) (R := 0 + 1) (duties_later m ρ (barCell c))) $$ [HaB] with HzB
  · isplitr; · iexact HIb
    iexact HaB
  -- the loads of the slots, the store of the result
  iapply (wp_load 𝒱₀ (c : Thread nD τ) none Set.univ (m := rM) (slot_load_sub 0)) $$ Hr0; iintro Hr0
  rw [read_slot 0 _ f0 h0]
  iapply (wp_load 𝒱₀ (c : Thread nD τ) none Set.univ (m := rM) (slot_load_sub 1)) $$ Hr1; iintro Hr1
  rw [read_slot 1 _ f1 h1]
  iapply (wp_load 𝒱₀ (c : Thread nD τ) none Set.univ (m := rM) (slot_load_sub 2)) $$ Hr2; iintro Hr2
  rw [read_slot 2 _ f2 h2]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin scratch
  rw [show (dats m ρ 0 c).owed t₀.succ = 0 from rfl]
  isplitl [Hs0 Hs1 Hs2 Hr0 Hr1 Hr2 HzS0 HzS1 HzS2 HzR0 HzR1 HzR2 HzB]
  · isplitl [Hs0 Hs1 Hs2 Hr0 Hr1 Hr2]
    · isplitl [Hs0 Hs1 Hs2]
      · iexists (sent m ρ c)
        iapply (thirds_join c (sent m ρ c))
        isplitl [Hs0]; · iexact Hs0
        isplitl [Hs1] <;> iassumption
      · iapply (slots_join c f0 f1 f2)
        unfold slotPts
        isplitl [Hr0]; · iexact Hr0
        isplitl [Hr1] <;> iassumption
    isplitr [HzB]
    · isplitl [HzS0]; · iexact HzS0
      isplitl [HzS1]; · iexact HzS1
      isplitl [HzS2]; · iexact HzS2
      isplitl [HzR0]; · iexact HzR0
      isplitl [HzR1] <;> iassumption
    iexact HzB
  isplitl [HO]
  · iexists W7
    isplitr; · ipureintro; exact fun _ _ => Or.inl trivial
    iexact HO
  isplitl [Hx]
  · iexists _; isplitr; · (ipureintro; rfl)
    iexact Hx
  iexists _; isplitr; · (ipureintro; rfl)
  iexact Hout

end Body

end Cert.KernelIdealProof

end
-- ==== Proof.Launch.lean ====
/-
# The launch

The protocol's cells are allocated for all sixteen devices at once, the duty tokens are dealt to the devices that pay
them, and the whole program is run: every execution ends, every counter is zero, every device's result array holds
`outAt` and its argument array is unchanged.
-/
module

public import proofs.«01_k».proof.Proof.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    isplitl [Ho]; · iexact Ho
    isplitl [Hx] <;> iassumption
  · iintro H; iexact H

/-! ## The launch element -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The cell and the duty of a device's own `j`-th token: its barrier's three, its sends' three, its receives' three. -/
abbrev tokC : Fin 9 → Fin 7 := fun | 0 => 0 | 1 => 0 | 2 => 0 | 3 => 1 | 4 => 2 | 5 => 3 | 6 => 4 | 7 => 5 | 8 => 6
abbrev tokD : Fin 9 → Fin 3 := fun | 0 => 0 | 1 => 1 | 2 => 2 | 3 => 0 | 4 => 0 | 5 => 0 | 6 => 0 | 7 => 0 | 8 => 0
abbrev tokOf (cj : Dev nD × Fin 9) : GSem nD τ sig × ℕ × Fin 3 := (kcell (cj.1, tokC cj.2), 0, tokD cj.2)
theorem tok_inj : ∀ j j' : Fin 9, tokC j = tokC j' → tokD j = tokD j' → j = j' := by decide
theorem tokOf_injective : Function.Injective (tokOf : Dev nD × Fin 9 → GSem nD τ sig × ℕ × Fin 3) := by
  rintro ⟨c, j⟩ ⟨c', j'⟩ h
  have h1 : (c, tokC j) = (c', tokC j') := kcell_injective (congrArg Prod.fst h)
  have h2 : tokD j = tokD j' := congrArg (fun x : GSem nD τ sig × ℕ × Fin 3 => x.2.2) h
  have h3 : c = c' := congrArg Prod.fst h1
  rw [h3, tok_inj j j' (congrArg Prod.snd h1) h2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] [Named F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] [Named F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] [Named F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the records and the tokens -/

def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (rd m ρ) (K ck) (kcell ck) : sProp 𝕄)) ⊢ cellInv ER (rd m ρ) (K ck) (kcell ck) :=
  bigSep_elim (Finset.mem_univ ck)
omit [FloatOps F] [Named F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem invs_intro (K : Dev nD × Fin 7 → ℕ) (c : Dev nD) :
    (bigSep Finset.univ fun ck : Dev nD × Fin 7 => (cellInv ER (rd m ρ) (K ck) (kcell ck) : sProp 𝕄)) ⊢ invs m ρ K c := by
  unfold invs
  iintro #HI
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    iapply (inv_at m ρ K (c, 6)); iexact HI
  isplitr
  · isplitr; · iapply (inv_at m ρ K (pe 0 c, 0)); iexact HI
    isplitr; · iapply (inv_at m ρ K (pe 1 c, 0)); iexact HI
    iapply (inv_at m ρ K (pe 2 c, 0)); iexact HI
  · isplitr; · iapply (inv_at m ρ K (pe 0 c, 6)); iexact HI
    isplitr; · iapply (inv_at m ρ K (pe 1 c, 5)); iexact HI
    iapply (inv_at m ρ K (pe 2 c, 4)); iexact HI

omit [FloatOps F] [Named F] in
theorem marks_intro (c : Dev nD) :
    (bigSep Finset.univ fun ck : Dev nD × Fin 7 => (reached ER (kcell ck) 0 : sProp 𝕄)) ⊢ marks c := by
  unfold marks
  iintro #HR
  isplitr
  · isplitr; · iapply (reached_at (F := F) (pe 0 c, 0)); iexact HR
    isplitr; · iapply (reached_at (F := F) (pe 1 c, 0)); iexact HR
    iapply (reached_at (F := F) (pe 2 c, 0)); iexact HR
  isplitr
  · isplitr; · iapply (reached_at (F := F) (c, 1)); iexact HR
    isplitr; · iapply (reached_at (F := F) (c, 2)); iexact HR
    iapply (reached_at (F := F) (c, 3)); iexact HR
  · isplitr; · iapply (reached_at (F := F) (c, 4)); iexact HR
    isplitr; · iapply (reached_at (F := F) (c, 5)); iexact HR
    iapply (reached_at (F := F) (c, 6)); iexact HR

/-- What stays with device `c`: its positions, and the tokens of the duties IT pays. -/
def linear (c : Dev nD) : sProp 𝕄 := iprop(poss c ∗ payToks c)

theorem ghost_intro (K : Dev nD × Fin 7 → ℕ) (c : Dev nD) : iprop(records m ρ K ∗ linear c) ⊢ G' m ρ c := by
  unfold records linear G' ghost
  iintro ⟨⟨#HI, #HR⟩, Ha, Ht⟩
  iexists K
  isplitr; · iapply (invs_intro m ρ K c); iexact HI
  isplitr; · iapply (marks_intro (F := F) c); iexact HR
  isplitl [Ha] <;> iassumption

omit [FloatOps F] [Named F] in
/-- The tokens dealt round the groups: a barrier's token `s` goes to the device that pays it, `pe s`, and so does the
    token of receive slot `s`; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (round 2) (fun c : Dev nD => (dutyTok ER (barCell c) 0 0 : sProp 𝕄)),
    bigSep_univ_equiv (round 1) (fun c : Dev nD => (dutyTok ER (barCell c) 0 1 : sProp 𝕄)),
    bigSep_univ_equiv (round 0) (fun c : Dev nD => (dutyTok ER (barCell c) 0 2 : sProp 𝕄)),
    bigSep_univ_equiv (round 2) (fun c : Dev nD => (dutyTok ER (recvCell c 0) 0 0 : sProp 𝕄)),
    bigSep_univ_equiv (round 1) (fun c : Dev nD => (dutyTok ER (recvCell c 1) 0 0 : sProp 𝕄)),
    bigSep_univ_equiv (round 0) (fun c : Dev nD => (dutyTok ER (recvCell c 2) 0 0 : sProp 𝕄))]
  iintro ⟨H0, H1, H2, HS0, HS1, HS2, HR0, HR1, HR2⟩
  isplitl [H0 H1 H2]
  · isplitl [H2]; · iexact H2
    isplitl [H1]; · iexact H1
    iexact H0
  isplitl [HS0 HS1 HS2]
  · isplitl [HS0]; · iexact HS0
    isplitl [HS1] <;> iassumption
  isplitl [HR2]; · iexact HR2
  isplitl [HR1]; · iexact HR1
  iexact HR0

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_ne_recv (a b : Dev nD) (s : Fin 3) : barCell a ≠ recvCell b s := fun h => by
  have h' : (SemLoc.reg barS : SemLoc sig) = .dma (rcvQ s) := congrArg Prod.snd h
  cases h'
theorem rcvQ_injective {s s' : Fin 3} (h : rcvQ s = rcvQ s') : s = s' := by
  have := congrArg Fin.val h
  rw [rcvQ_val, rcvQ_val] at this
  exact Fin.ext (by omega)
theorem bar_inj {a b : Dev nD} (h : barCell a = barCell b) : a = b := Fin.ext (congrArg (fun g : GSem nD τ sig => g.1.1.val) h)
theorem recv_inj {a b : Dev nD} {s s' : Fin 3} (h : recvCell a s = recvCell b s') : a = b ∧ s = s' :=
  ⟨Fin.ext (congrArg (fun g : GSem nD τ sig => g.1.1.val) h), by
    have h' : (SemLoc.dma (rcvQ s) : SemLoc sig) = .dma (rcvQ s') := congrArg Prod.snd h
    exact rcvQ_injective (SemLoc.dma.inj h')⟩

theorem tally_bar (d c : Dev nD) (i : Fin 3) : (tallyAt (barCell (pe i d)) () 1 : CellTallies nD τ sig Unit) (barCell c) () = if d = pe (op i) c then 1 else 0 := by
  rw [tallyAt_apply]
  by_cases h : d = pe (op i) c
  · subst h; rw [pe_op' i c, if_pos ⟨rfl, rfl⟩, if_pos rfl]
  · rw [if_neg (fun ⟨h1, _⟩ => h (by rw [bar_inj h1, pe_op])), if_neg h]
theorem tally_recv (d c : Dev nD) (i s : Fin 3) :
    (tallyAt (recvCell (pe i d) (op i)) () N : CellTallies nD τ sig Unit) (recvCell c s) () = if s = op i ∧ d = pe (op i) c then N else 0 := by
  rw [tallyAt_apply]
  by_cases h : s = op i ∧ d = pe (op i) c
  · obtain ⟨h1, h2⟩ := h
    subst h1; subst h2; rw [pe_op' i c, if_pos ⟨rfl, rfl⟩, if_pos ⟨rfl, rfl⟩]
  · rw [if_neg (fun ⟨h1, _⟩ => h ⟨(recv_inj h1).2, by rw [(recv_inj h1).1, pe_op]⟩), if_neg h]

theorem op_zero : op 0 = 2 := by decide
theorem op_one : op 1 = 1 := by decide
theorem op_two : op 2 = 0 := by decide

/-- What device `d` owes device `c`'s barrier cell: a unit for each of the three it is to `c`. -/
theorem owed_bar (d c : Dev nD) :
    O₀ d (barCell c) () = (if d = pe 0 c then 1 else 0) + (if d = pe 1 c then 1 else 0) + (if d = pe 2 c then 1 else 0) := by
  unfold O₀ OB1 OB2 OC0 OC1 OC2
  simp only [Pi.add_apply, Finsupp.add_apply]
  rw [tally_bar d c 0, tally_bar d c 1, tally_bar d c 2, tallyAt_ne_cell (bar_ne_recv _ _ _), tallyAt_ne_cell (bar_ne_recv _ _ _), tallyAt_ne_cell (bar_ne_recv _ _ _)]
  simp only [Finsupp.zero_apply, Nat.zero_add]

theorem owed_recv (d c : Dev nD) (s : Fin 3) : O₀ d (recvCell c s) () = if d = pe s c then N else 0 := by
  unfold O₀ OB1 OB2 OC0 OC1 OC2
  simp only [Pi.add_apply, Finsupp.add_apply]
  rw [tallyAt_ne_cell (bar_ne_recv _ _ _).symm, tallyAt_ne_cell (bar_ne_recv _ _ _).symm, tallyAt_ne_cell (bar_ne_recv _ _ _).symm]
  rw [tally_recv d c 0 s, tally_recv d c 1 s, tally_recv d c 2 s]
  have hs : s = 0 ∨ s = 1 ∨ s = 2 := by fin_cases s <;> decide
  rw [op_zero, op_one, op_two]
  rcases hs with rfl | rfl | rfl <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pe 0 c) fun _ => 1, Finset.sum_ite_eq' Finset.univ (pe 1 c) fun _ => 1, Finset.sum_ite_eq' Finset.univ (pe 2 c) fun _ => 1,
    if_pos (Finset.mem_univ _), if_pos (Finset.mem_univ _), if_pos (Finset.mem_univ _)]

theorem launch_recv (c : Dev nD) (s : Fin 3) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (pe s c) fun _ => N,
    if_pos (Finset.mem_univ _)]

omit [FloatOps F] [Named F] in
theorem creds (c : Dev nD) : (Pipeline.launchCred O₀ c : sProp 𝕄) ⊢ credsOf c := by
  unfold Pipeline.launchCred credsOf
  rw [bigSep_univ_at _ (SemLoc.reg barS), launch_bar]
  refine sep_mono_right ?_
  rw [← launch_recv c 0, ← launch_recv c 1, ← launch_recv c 2]
  have hs : ({.dma (rcvQ 0), .dma (rcvQ 1), .dma (rcvQ 2)} : Finset (SemLoc sig)) ⊆ Finset.univ.erase (SemLoc.reg barS) := by decide
  refine (bigSep_subset hs).trans ?_
  rw [bigSep_eq_bigSepL_of_eq [SemLoc.dma (rcvQ 0), .dma (rcvQ 1), .dma (rcvQ 2)] (by decide) (by decide)]
  exact Idealize.SL.BI.Entails.refl _

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzS, HzB⟩
  isplitl [HzB]; · iexact HzB
  isplitl [HzS]; · iexact HzS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair execution
    of @main terminates, and every final state has each device's arrays at the computed contents and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.Arrays.lean ====
/-
# The two arrays around the kernel

The kernel's one grid point stages the whole argument and writes the whole result back, so what a device computed from is
its argument, and its result array ends at what the body left.
-/
module

public import proofs.«01_k».proof.Proof.Launch
public import proofs.«01_k».proof.Proof.Gen.KernelIdeal.Points
public import Idealize.ShloMosaic.Lib.Pipeline.Value

@[expose] public section

set_option maxRecDepth 1500

noncomputable section

namespace Cert.KernelIdealProof

open Idealize.ShloMosaic Idealize.SL.Sem Cert.KernelIdeal Cert.KernelIdeal.Gen
open TcCoe

variable {F : FTy → Type} [FloatOps F] [Named F]
variable (m : (ℓ : Loc nD τ sig) → Buf (Elt F) ℓ) (ρ : Dev nD → PrngReg)

/-- The block a device works on is its argument array. -/
theorem xstg_eq (c : Dev nD) : xstg m ρ c = m ((c.tc : Thread nD τ).loc main_arg0) := by
  funext y
  unfold xstg
  rw [View.read_apply]
  refine congrArg (m ((c.tc : Thread nD τ).loc main_arg0)) ?_
  funext a
  exact Fin.ext (Pipeline.Window.rect_emb_val_of_index_zero win0_0 (0 : Fin 1) a (by revert a; decide) y)

/-- The write-back of the whole result. -/
theorem out_read (c : Dev nD) (G : Buf (Elt F) ((cfg0.win 1).arr.view.loc (c : Thread nD τ))) (t : Fin cfg0.N) :
    ((cfg0.win 1).blk t).view.read (Elt F) G = G := by
  obtain rfl : t = (0 : Fin 1) := Subsingleton.elim (α := Fin 1) t 0
  funext y
  rw [View.read_apply]
  refine congrArg G ?_
  funext a
  exact Fin.ext (Pipeline.Window.rect_emb_val_of_index_zero win0_1 (0 : Fin 1) a (by revert a; decide) y)

/-- The result array after the run holds what the body left. -/
theorem finalA_out (c : Dev nD) : finalA m ρ c (1 : Fin 2) = outAt m ρ c := by
  refine (dats m ρ 0 c).arrAt_eq_of_cover (1 : Fin 2) (outAt m ρ c) (fun t _ => ?_) (fun i => ?_)
  · exact (out_read c _ t).symm
  · refine ⟨(0 : Fin 1), flush0_1 _, ?_⟩
    have e : (win0_1.blk (0 : Fin 1)).view.emb i = i := by
      funext a
      exact Fin.ext (Pipeline.Window.rect_emb_val_of_index_zero win0_1 (0 : Fin 1) a (by revert a; decide) i)
    have h := (win0_1.blk (0 : Fin 1)).view.emb_mem_set i
    rw [e] at h
    exact h

/-- Every run of the kernel: results, arguments and counters. -/
theorem run_values : θ_run defs (onTc (τ := τ) (main (F := F))) ⟨m, fun _ => 0, ρ⟩ (fun r => (∀ c : Dev nD,
    r.2.mem ((c.tc : Thread nD τ).loc main_v1) = outAt m ρ c
    ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (finalA_out m ρ c), (h.1 c (0 : Fin 2)).trans (finalA_x m ρ c)⟩, h.2⟩)
    (run_main m ρ)

end Cert.KernelIdealProof

end
-- ==== Proof.Reference.lean ====
/-
# What the reference computes

The reference sorts each row upwards, replaces an element equal to the next one by `-∞`, sorts the positions of what
is left by the negated values, and reads the row at the first sixteen of those positions. The first step keeps one copy of
every value, so the result is the row's sixteen largest different values, in descending order. The program that keeps
ties runs the same last two steps on the row itself.
-/
module

public import proofs.«01_k».proof.Proof.Ranks
public import proofs.«01_k».proof.Proof.Gen.ReferenceIdeal.Run
public import proofs.«01_k».proof.Proof.Gen.TiesIdeal.Run
public import proofs.«01_k».proof.Proof.Gen.Pre_tie_free
public import Idealize.ShloMosaic.Lib.Pointwise
public import Idealize.ShloMosaic.Lib.SortFacts
public import Idealize.ShloMosaic.Lib.ReduceAll
public import Idealize.ShloMosaic.Lib.Tactic.WordOmega

@[expose] public section

set_option maxRecDepth 1500

noncomputable section

namespace Cert.ReferenceProof

open Idealize.ShloMosaic Cert.ReferenceIdeal Cert.ReferenceIdeal.Gen Cert.Ranks

section
variable {F : FTy → Type} [FloatOps F]

/-- Each row sorted upwards. -/
def sorted (x : FVec F S512x16384 .f32) : FVec F S512x16384 .f32 := Host.sort S512x16384 1 comparator_f32_d1 x

/-- An element of a sorted row that equals the next one becomes `-∞`. -/
def dedup (s : FVec F S512x16384 .f32) : FVec F S512x16384 .f32 :=
  select (concatenate S512x16384 1
    [⟨S512x16383, (cmpf .oeq (extractStridedSlice S512x16383 ![0, 1] s slices_S512x16384_S512x16383_0_1) (extractStridedSlice S512x16383 ![0, 0] s slices_S512x16384_S512x16383_0_0))⟩,
      ⟨S512x1, (broadcastInDim S512x1 ![] bcast_S_S512x1 (constantI S_ 1 0#1))⟩] concatenates_S512x16383_S512x1_S512x16384_d1)
    (broadcastInDim S512x16384 ![] bcast_S_S512x16384 (id (constant S_ .f32 0xFF800000#32))) s

/-- The positions of each row's elements, those of the largest first. -/
def order (y : FVec F S512x16384 .f32) : IVec S512x16384 32 :=
  (Host.sort2 S512x16384 1 comparator_f32_i32_d1 (Host.negf y) (iotaInDim S512x16384 32 1)).2

/-- Positions as the gather takes them: one that is negative counts from the end. -/
def places (p : IVec S512x16 32) : IVec S512x16x1 32 :=
  shapeCast S512x16x1 (select (cmpi .slt p (broadcastInDim S512x16 ![] bcast_S_S512x16 (constantI S_ 32 0#32)))
    (addi p (broadcastInDim S512x16 ![] bcast_S_S512x16 (constantI S_ 32 16384#32))) p) shapeCasts_S512x16_S512x16x1

/-- Whether the place is one of the row. -/
def inRow (q : IVec S512x16x1 32) : IVec S512x16 1 :=
  Host.reduce IntOp.andi (andi (cmpi .sge q (broadcastInDim S512x16x1 ![] bcast_S_S512x16x1 (constantI S_ 32 0#32)))
    (cmpi .sle q (broadcastInDim S512x16x1 ![0, 1, 2] bcast_S1x1x1_S512x16x1_0_1_2 (broadcastInDim S1x1x1 ![2] bcast_S1_S1x1x1_2 (constantI S1 32 16383#32)))))
    (constantI S_ 1 1#1) reducesTo_S512x16x1_S512x16_d2 h_S_

/-- The rows read at the places. -/
def readAt (y : FVec F S512x16384 .f32) (q : IVec S512x16x1 32) : FVec F S512x16 .f32 :=
  select (inRow q) (Host.gather gather_S512x16384_S512x16x1_S512x16_n_1_0_0_1_2_11 y q)
    (broadcastInDim S512x16 ![] bcast_S_S512x16 (constant S_ .f32 0x7FC00000#32))

/-- The sixteen largest elements of each row. -/
def largest (y : FVec F S512x16384 .f32) : FVec F S512x16 .f32 :=
  readAt y (places (extractStridedSlice S512x16 ![0, 0] (order y) slices_S512x16384_S512x16_0_0))

theorem result_eq (m : (ℓ : Loc nD τ sig) → Buf (Elt F) ℓ) (c : Dev nD) :
    Value.res_main_v10 m c = largest (dedup (sorted (m ((c.tc : Thread nD τ).loc main_arg0)))) := rfl

end

/-! ## Index arithmetic -/

/-- The gather reads row `r` at the place named for `(r, k)`. -/
theorem gather_apply (y : FVec Ideal S512x16384 .f32) (q : IVec S512x16x1 32) (r : Fin 512) (k : Fin 16) :
    Host.gather gather_S512x16384_S512x16x1_S512x16_n_1_0_0_1_2_11 y q (ix2 r k)
      = y (ix2 r ⟨min (q (ix3 r k 0)).toInt.toNat 16383, by omega⟩) := by
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S512x16384_S512x16x1_S512x16_n_1_0_0_1_2_11.operandBatchingDims from List.mem_singleton.mpr rfl)]
    rfl
  · rw [GatherDims.batchCoord_eq_zero _ _ _ (fun h => by simp [gather_S512x16384_S512x16x1_S512x16_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S512x16384_S512x16x1_S512x16_n_1_0_0_1_2_11.startIndexMap from List.mem_singleton.mpr rfl)]
    have hsi : gather_S512x16384_S512x16x1_S512x16_n_1_0_0_1_2_11.siIdx (ix2 r k)
        ⟨List.idxOf (1 : Fin 2) gather_S512x16384_S512x16x1_S512x16_n_1_0_0_1_2_11.startIndexMap,
          List.idxOf_lt_length_iff.2 (List.mem_singleton.mpr rfl)⟩ = ix3 r k 0 := by
      funext b
      refine Fin.ext ?_
      match b with
      | ⟨0, _⟩ => rfl
      | ⟨1, _⟩ => rfl
      | ⟨2, _⟩ => rfl
    rw [hsi]
    rfl

/-! ## The comparators order by `<` -/

theorem keep (l n : EReal) : Scalar.select (FloatOps.cmpf (F := Ideal) (φ := .f32) .une l l) n
    (Scalar.select (FloatOps.cmpf (F := Ideal) (φ := .f32) .oeq l (FloatOps.ofBits (F := Ideal) .f32 0x00000000#32)) (FloatOps.ofBits (F := Ideal) .f32 0x00000000#32) l) = l := by
  pointwise
  rw [if_neg (not_not.mpr rfl)]
  split_ifs with h
  · exact h.symm
  · rfl

theorem less_apply (a b : EReal) : (FloatOps.cmpfTotal (F := Ideal) (φ := .f32) .lt a b == 1#1) = decide (a < b) := by
  show (Ideal.cmp .olt a b == 1#1) = _
  unfold Ideal.cmp
  by_cases h : a < b <;> simp [h]

theorem comparator_apply (a b : Ideal .f32) : (comparator_f32_d1 (F := Ideal) a b == 1#1) = decide (a < b) := by
  unfold comparator_f32_d1
  simp only [keep]
  exact less_apply a b

theorem comparator2_apply (a b : Ideal .f32 × BitVec 32) : (comparator_f32_i32_d1 (F := Ideal) a b == 1#1) = decide (a.1 < b.1) := by
  unfold comparator_f32_i32_d1
  simp only [keep]
  exact less_apply a.1 b.1

/-- The positions of `f` in ascending order. -/
def asc {n : ℕ} (f : Fin n → EReal) : Fin n → Fin n := sortedFrom fun a b => decide (f a < f b)

theorem asc_bijective {n : ℕ} (f : Fin n → EReal) : Function.Bijective (asc f) :=
  ⟨sortedFrom_injective _, sortedFrom_surjective _⟩

theorem asc_le {n : ℕ} (f : Fin n → EReal) (i j : Fin n) (h : i < j) : f (asc f i) ≤ f (asc f j) := by
  have := sortedFrom_noInversion (fun a b => decide (f a < f b)) (fun a b => decide (f a < f b))
    (fun a b h => by simp only [decide_eq_true_eq, decide_eq_false_iff_not, not_lt] at h ⊢; exact h.le) (fun _ _ h => h)
    (fun a b c h1 h2 => by simp only [decide_eq_false_iff_not, not_lt] at h1 h2 ⊢; exact h2.trans h1) i j h
  exact not_lt.mp (of_decide_eq_false this)

theorem asc_mono {n : ℕ} (f : Fin n → EReal) : Monotone fun l => f (asc f l) := by
  intro i j h
  rcases h.eq_or_lt with rfl | h
  · exact le_rfl
  · exact asc_le _ i j h

theorem asc_range {n : ℕ} (f : Fin n → EReal) : (Set.range fun l => f (asc f l)) = Set.range f :=
  (asc_bijective f).2.range_comp f

theorem asc_neg {n : ℕ} (f : Fin n → EReal) (hf : ∀ i j, f i = f j → f i ≠ ⊥ → i = j) (k : ℕ) (hk : k < n) :
    f (asc (fun l => - f l) ⟨k, hk⟩) = nth (Set.range f) k :=
  nth_of_sorted f hf _ (asc_bijective _) (fun i j h => EReal.neg_le_neg_iff.mp (asc_le (fun l => - f l) i j h)) k hk

/-- The sixteen first positions of a row. -/
def front (k : Fin 16) : Fin 16384 := ⟨k, by omega⟩

/-- A sort along the rows of a matrix, read at an index. -/
theorem sortBy_row {n m : ℕ} {α β : Type} (cmp : β → β → BitVec 1) (rows : (⟨2, ![n, m]⟩ : Shape).Idx → β) (x : (⟨2, ![n, m]⟩ : Shape).Idx → α)
    (r : Fin n) (k : Fin m) : Host.sortBy ⟨2, ![n, m]⟩ 1 cmp rows x (ix2 r k)
      = x (ix2 r (sortedFrom (fun a b => cmp (rows (ix2 r a)) (rows (ix2 r b)) == 1#1) k)) := by
  have h : ∀ l : Fin m, (ix2 r k : (⟨2, ![n, m]⟩ : Shape).Idx).along (1 : Fin 2) l = ix2 r l := by
    intro l
    funext a
    match a with
    | ⟨0, _⟩ => rfl
    | ⟨1, _⟩ => rfl
  refine (congrArg x (h _)).trans ?_
  exact congrArg (fun f => x (ix2 r (sortedFrom f k))) (funext fun a => funext fun b =>
    congrArg₂ (fun u v => cmp (rows u) (rows v) == 1#1) (h a) (h b))

theorem sorted_apply (x : FVec Ideal S512x16384 .f32) (r : Fin 512) (k : Fin 16384) :
    sorted x (ix2 r k) = x (ix2 r (asc (fun l => x (ix2 r l)) k)) := by
  unfold sorted
  rw [Host.sort_eq_sortBy]
  refine (sortBy_row _ x x r k).trans ?_
  unfold asc
  simp only [comparator_apply]

theorem order_apply (y : FVec Ideal S512x16384 .f32) (r : Fin 512) (k : Fin 16384) :
    order y (ix2 r k) = BitVec.ofNat 32 (asc (fun l => - y (ix2 r l)) k) := by
  unfold order
  rw [Host.sort2_eq_sortBy]
  refine (sortBy_row comparator_f32_i32_d1 (fun j => (Host.negf y j, iotaInDim S512x16384 32 1 j)) (iotaInDim S512x16384 32 1) r k).trans ?_
  unfold asc
  simp only [comparator2_apply]
  rfl

/-! ## Reading at positions of the row -/

theorem places_apply (p : IVec S512x16 32) (r : Fin 512) (k : Fin 16) (n : ℕ) (hn : n < 16384) (hp : p (ix2 r k) = BitVec.ofNat 32 n) (z : Fin 1) :
    places p (ix3 r k z) = BitVec.ofNat 32 n := by
  pointwise [places]
  rw [hp]
  have h : IntOp.cmpi .slt (BitVec.ofNat 32 n) 0#32 = 0#1 := by word_omega
  rw [h]
  rfl

theorem inRow_apply (q : IVec S512x16x1 32) (hq : ∀ r k z, ∃ n < 16384, q (ix3 r k z) = BitVec.ofNat 32 n) (j : S512x16.Idx) : inRow q j = 1#1 := by
  refine Host.reduce_andi_one _ _ _ _ _ rfl ?_
  intro i
  obtain ⟨r, k, z, rfl⟩ : ∃ (r : Fin 512) (k : Fin 16) (z : Fin 1), i = ix3 r k z := ⟨i 0, i 1, i 2, eq_ix3 i⟩
  obtain ⟨n, hn, e⟩ := hq r k z
  pointwise
  rw [e]
  have h1 : IntOp.cmpi .sge (BitVec.ofNat 32 n) 0#32 = 1#1 := by word_omega
  have h2 : IntOp.cmpi .sle (BitVec.ofNat 32 n) 16383#32 = 1#1 := by word_omega
  rw [h1, h2]
  rfl

theorem readAt_apply (y : FVec Ideal S512x16384 .f32) (q : IVec S512x16x1 32) (n : Fin 512 → Fin 16 → Fin 16384)
    (hq : ∀ r k z, q (ix3 r k z) = BitVec.ofNat 32 (n r k)) (r : Fin 512) (k : Fin 16) :
    readAt y q (ix2 r k) = y (ix2 r (n r k)) := by
  have h1 := inRow_apply q (fun r k z => ⟨n r k, (n r k).isLt, hq r k z⟩) (ix2 r k)
  unfold readAt
  show Scalar.select _ _ _ = _
  rw [h1, gather_apply]
  have hn : min (q (ix3 r k 0)).toInt.toNat 16383 = n r k := by
    have := (n r k).isLt
    rw [hq, BitVec.toInt_ofNat', Int.bmod_eq_of_le (by omega) (by omega)]
    omega
  exact congrArg (fun i => y (ix2 r i)) (Fin.ext hn)

theorem order_front (y : FVec Ideal S512x16384 .f32) (r : Fin 512) (k : Fin 16) :
    extractStridedSlice S512x16 ![0, 0] (order y) slices_S512x16384_S512x16_0_0 (ix2 r k) = order y (ix2 r (front k)) := by
  pointwise
  exact congrArg (fun i => order y (ix2 r i)) (Fin.ext (by simp only [front]))

/-- The position of the `k`-th largest element of row `r`. -/
def placeOf (y : FVec Ideal S512x16384 .f32) (r : Fin 512) (k : Fin 16) : Fin 16384 := asc (fun l => - y (ix2 r l)) (front k)

theorem front_places (y : FVec Ideal S512x16384 .f32) (r : Fin 512) (k : Fin 16) :
    extractStridedSlice S512x16 ![0, 0] (order y) slices_S512x16384_S512x16_0_0 (ix2 r k) = BitVec.ofNat 32 (placeOf y r k) := by
  rw [order_front, order_apply]
  rfl

theorem largest_at (y : FVec Ideal S512x16384 .f32) (r : Fin 512) (k : Fin 16) : largest y (ix2 r k) = y (ix2 r (placeOf y r k)) := by
  unfold largest
  refine readAt_apply y _ (placeOf y) ?_ r k
  intro r k z
  exact places_apply _ r k _ (placeOf y r k).isLt (front_places y r k) z

theorem placeOf_apply (y : FVec Ideal S512x16384 .f32) (r : Fin 512) (k : Fin 16)
    (hy : ∀ i j : Fin 16384, y (ix2 r i) = y (ix2 r j) → y (ix2 r i) ≠ ⊥ → i = j) :
    y (ix2 r (placeOf y r k)) = nth (Set.range fun l : Fin 16384 => y (ix2 r l)) k := by
  unfold placeOf front
  exact asc_neg (fun l => y (ix2 r l)) hy k _

/-- Of rows without repeats but for `⊥`, the sixteen largest elements in order. -/
theorem largest_apply (y : FVec Ideal S512x16384 .f32) (hy : ∀ r (i j : Fin 16384), y (ix2 r i) = y (ix2 r j) → y (ix2 r i) ≠ ⊥ → i = j)
    (r : Fin 512) (k : Fin 16) : largest y (ix2 r k) = nth (Set.range fun l : Fin 16384 => y (ix2 r l)) k :=
  (largest_at y r k).trans (placeOf_apply y r k (hy r))

/-! ## One copy of each value -/

theorem select_ite (a b u v : EReal) [Decidable (a = b)] : Scalar.select (BitVec.ofBool (decide (a = b))) u v = if a = b then u else v := by
  by_cases h : a = b <;> simp [h, Scalar.select]

theorem dedup_apply (s : FVec Ideal S512x16384 .f32) (r : Fin 512) (k : Fin 16384) :
    dedup s (ix2 r k) = once (fun l => s (ix2 r l)) k := by
  have c : constant S_ (F := Ideal) .f32 4286578688#32 ix0 = (⊥ : EReal) := rfl
  pointwise [dedup]
  unfold once
  show Scalar.select _ (constant S_ (F := Ideal) .f32 4286578688#32 ix0) _ = _
  rw [c]
  by_cases h : (k : ℕ) < 16383
  · have h' : (k : ℕ) + 1 < 16384 := by omega
    have e : (⟨1 + k, by omega⟩ : Fin 16384) = ⟨k + 1, h'⟩ := Fin.ext (Nat.add_comm _ _)
    rw [dif_pos h, dif_pos h', e]
    exact select_ite _ _ _ _
  · rw [dif_neg h, dif_neg (by omega)]
    rfl

/-- The reference's result: the sixteen largest different values of each row. -/
theorem reference_apply (x : FVec Ideal S512x16384 .f32) (r : Fin 512) (k : Fin 16) :
    largest (dedup (sorted x)) (ix2 r k) = nth (Set.range fun l : Fin 16384 => x (ix2 r l)) k := by
  have e : ∀ r, (fun l => dedup (sorted x) (ix2 r l)) = once fun l => x (ix2 r (asc (fun l => x (ix2 r l)) l)) := by
    intro r
    funext l
    rw [dedup_apply]
    exact congrArg (fun f => once f l) (funext fun l => sorted_apply x r l)
  have hy : ∀ r (i j : Fin 16384), dedup (sorted x) (ix2 r i) = dedup (sorted x) (ix2 r j) → dedup (sorted x) (ix2 r i) ≠ ⊥ → i = j := by
    intro r i j h hb
    have ei : dedup (sorted x) (ix2 r i) = _ := congrFun (e r) i
    have ej : dedup (sorted x) (ix2 r j) = _ := congrFun (e r) j
    exact once_injective _ (asc_mono fun l => x (ix2 r l)) i j (by rw [← ei, ← ej, h]) (by rw [← ei]; exact hb)
  rw [largest_apply _ hy, e r, nth_once]
  exact congrArg (fun S => nth S k) (asc_range fun l => x (ix2 r l))

/-! ## Without ties -/

/-- A row that strictly ascends once in order has no value twice. -/
theorem injective_of_asc {n : ℕ} (f : Fin n → EReal) (h : ∀ (i : ℕ) (hi : i + 1 < n), f (asc f ⟨i, by omega⟩) < f (asc f ⟨i + 1, hi⟩)) :
    Function.Injective f := by
  have step : ∀ d i : ℕ, ∀ hi : i + d + 1 < n, f (asc f ⟨i, by omega⟩) < f (asc f ⟨i + d + 1, hi⟩) := by
    intro d
    induction d with
    | zero => exact fun i hi => h i hi
    | succ d ih => exact fun i hi => (ih i (by omega)).trans (h (i + d + 1) hi)
  have mono : StrictMono fun l => f (asc f l) := by
    intro i j hij
    have hj : (i : ℕ) + (j - i - 1) + 1 = j := by have := Fin.lt_def.mp hij; omega
    have := step (j - i - 1) i (by have := j.isLt; omega)
    have ej : (⟨(i : ℕ) + (j - i - 1) + 1, by have := j.isLt; omega⟩ : Fin n) = j := Fin.ext hj
    rw [ej] at this
    exact this
  intro i j hij
  obtain ⟨a, rfl⟩ := (asc_bijective f).2 i
  obtain ⟨b, rfl⟩ := (asc_bijective f).2 j
  exact congrArg (asc f) (mono.injective hij)

theorem lt_of_bit (a b : EReal) [Decidable (a < b)] (h : BitVec.ofBool (decide (a < b)) = 1#1) : a < b := by
  by_contra hn
  simp [hn] at h

theorem tie_free_eq (x : FVec Ideal S512x16384 .f32) : Cert.Pre_tie_free.fn x
    = cmpf .olt (extractStridedSlice Cert.Pre_tie_free.S512x16383 ![0, 0] (sorted x) Cert.Pre_tie_free.Facts.slices_S512x16384_S512x16383_0_0)
      (extractStridedSlice Cert.Pre_tie_free.S512x16383 ![0, 1] (sorted x) Cert.Pre_tie_free.Facts.slices_S512x16384_S512x16383_0_1) := rfl

theorem tie_free_apply (x : FVec Ideal S512x16384 .f32) (h : Cert.Pre_tie_free.fn x = fun _ => 1#1) (r : Fin 512) (k : ℕ) (hk : k + 1 < 16384) :
    sorted x (ix2 r ⟨k, by omega⟩) < sorted x (ix2 r ⟨k + 1, hk⟩) := by
  rw [tie_free_eq] at h
  have e := congrFun h (ix2 r (⟨k, by omega⟩ : Fin 16383))
  generalize sorted x = s at e ⊢
  pointwise at e
  have ek : (⟨1 + k, by omega⟩ : Fin 16384) = ⟨k + 1, hk⟩ := Fin.ext (Nat.add_comm _ _)
  have e' := lt_of_bit _ _ e
  rw [ek] at e'
  exact e'

theorem tie_free_injective (x : FVec Ideal S512x16384 .f32) (h : Cert.Pre_tie_free.fn x = fun _ => 1#1) (r : Fin 512) :
    Function.Injective fun l : Fin 16384 => x (ix2 r l) := by
  refine injective_of_asc _ fun k hk => ?_
  have := tie_free_apply x h r k hk
  rw [sorted_apply, sorted_apply] at this
  exact this

/-- Without ties the two reference programs agree. -/
theorem ties_eq (x : FVec Ideal S512x16384 .f32) (h : Cert.Pre_tie_free.fn x = fun _ => 1#1) : largest (dedup (sorted x)) = largest x := by
  funext j
  obtain ⟨r, k, rfl⟩ : ∃ (r : Fin 512) (k : Fin 16), j = ix2 r k := ⟨j 0, j 1, eq_ix2 j⟩
  rw [reference_apply, largest_apply x fun r i j e _ => tie_free_injective x h r e]

end Cert.ReferenceProof
-- ==== Proof.Value.lean ====
/-
# The value of a run

The four devices of a group hold the four blocks of every row, so what a device merges are the sixteen largest different
values of each block and what it writes are those of the whole row: the reference's result.
-/
module

public import proofs.«01_k».proof.Proof.Rounds
public import proofs.«01_k».proof.Proof.Spread
public import proofs.«01_k».proof.Proof.Arrays
public import proofs.«01_k».proof.Proof.Reference
public import Idealize.ShloMosaic.Lib.Layout

@[expose] public section

set_option maxRecDepth 1500

noncomputable section

namespace Cert.KernelIdealProof

open Idealize.ShloMosaic Cert.KernelIdeal Cert.KernelIdeal.Gen Cert.Ranks
open TcCoe

/-! ## Blocks of a row -/

/-- Device `c`'s block of a whole array. -/
abbrev blockOf (X : FVec Ideal Cert.ReferenceIdeal.S512x16384 .f32) (c : Dev nD) : FVec Ideal S512x4096 .f32 :=
  Layout.blockN ⟨2, ![512, 4096]⟩ ⟨2, ![512, 16384]⟩ (Layout.meshBlock [2, 2, 4] ![[], [2]] c) X

/-- It holds the columns of the device's place in its group. -/
theorem blockOf_apply (X : FVec Ideal Cert.ReferenceIdeal.S512x16384 .f32) (c : Dev nD) (r : Fin 512) (l : Fin 4096) :
    blockOf X c (ix2 r l) = X (ix2 r ⟨(c : ℕ) % 4 * 4096 + l, by omega⟩) := by
  unfold blockOf
  rw [Layout.blockN_apply]
  refine congrArg X (funext fun a => Fin.ext ?_)
  rw [Layout.TilesN.idx_val]
  fin_cases a
  · show Layout.meshLin [2, 2, 4] c [] * 512 + (r : ℕ) = r
    have h : Layout.meshLin [2, 2, 4] c [] = 0 := rfl
    omega
  · show Layout.meshLin [2, 2, 4] c [2] * 4096 + (l : ℕ) = (c : ℕ) % 4 * 4096 + l
    have h : Layout.meshLin [2, 2, 4] c [2] = (c : ℕ) % 4 := by
      simp [Layout.meshLin, Layout.meshCoord, Layout.cutSize]
    rw [h]

/-- The devices of `c`'s group, `c` first. -/
def member (c : Dev nD) : Fin 4 → Dev nD := ![c, pe 0 c, pe 1 c, pe 2 c]

set_option maxRecDepth 8000 in
/-- Every place is some member's. -/
theorem member_place : ∀ (c : Dev nD) (z : Fin 4), ∃ n : Fin 4, (member c n : ℕ) % 4 = z := by
  show ∀ (c : Fin 16) (z : Fin 4), _
  decide

/-- The blocks of the group make up the row. -/
theorem row_of_group (X : FVec Ideal Cert.ReferenceIdeal.S512x16384 .f32) (c : Dev nD) (r : Fin 512) :
    {v | ∃ n, v ∈ rowOf (blockOf X (member c n)) r} = Set.range fun l : Fin 16384 => X (ix2 r l) := by
  ext v
  constructor
  · rintro ⟨n, l, rfl⟩
    exact ⟨_, (blockOf_apply X (member c n) r l).symm⟩
  · rintro ⟨l, rfl⟩
    have hl := l.isLt
    obtain ⟨n, hn⟩ := member_place c ⟨(l : ℕ) / 4096, by omega⟩
    refine ⟨n, ⟨(l : ℕ) % 4096, by omega⟩, ?_⟩
    show blockOf X (member c n) (ix2 r _) = _
    rw [blockOf_apply]
    refine congrArg (fun i => X (ix2 r i)) (Fin.ext ?_)
    show (member c n : ℕ) % 4 * 4096 + (l : ℕ) % 4096 = l
    rw [hn]
    show (l : ℕ) / 4096 * 4096 + (l : ℕ) % 4096 = l
    omega

/-! ## The merged result -/

theorem up_apply (y : FVec Ideal S512x16 .f32) (r : Fin 512) (k : Fin 16) :
    shapeCast S1x512x16 (shapeCast S512x16 y shapeCasts_S512x16_S512x16) casts_up (ix3 0 r k) = y (ix2 r k) := by
  pointwise

variable (m : (ℓ : Loc nD τ sig) → Buf (Elt Ideal) ℓ) (ρ : Dev nD → PrngReg)

theorem outAt_apply (X : FVec Ideal Cert.ReferenceIdeal.S512x16384 .f32)
    (hX : ∀ c : Dev nD, m ((c.tc : Thread nD τ).loc main_arg0) = blockOf X c) (hF : ∀ c : Dev nD, FourPerLane (blockOf X c))
    (c : Dev nD) (r : Fin 512) (k : Fin 16) : outAt m ρ c (ix2 r k) = nth (Set.range fun l : Fin 16384 => X (ix2 r l)) k := by
  have hx : ∀ c, xstg m ρ c = blockOf X c := fun c => (xstg_eq m ρ c).trans (hX c)
  have hs : ∀ c, sent m ρ c = shapeCast S512x16 (localOf (F := Ideal) (blockOf X c)) shapeCasts_S512x16_S512x16 := by
    intro c
    show sentOf (xstg m ρ c) = _
    rw [hx, sentOf_eq]
  rw [← row_of_group X c r]
  unfold outAt
  rw [hx, hs, hs, hs]
  exact mergeOf_apply (fun n => localOf (blockOf X (member c n))) _ _ _ (up_apply _) (up_apply _) (up_apply _) r
    (fun n => rowOf (blockOf X (member c n)) r) (fun n => Set.finite_range _) (fun n k => localOf_apply _ (hF _) r k) k

/-- Every device ends with the reference's result. -/
theorem outAt_eq (X : FVec Ideal Cert.ReferenceIdeal.S512x16384 .f32)
    (hX : ∀ c : Dev nD, m ((c.tc : Thread nD τ).loc main_arg0) = blockOf X c) (hF : ∀ c : Dev nD, FourPerLane (blockOf X c))
    (c : Dev nD) : outAt m ρ c = Cert.ReferenceProof.largest (Cert.ReferenceProof.dedup (Cert.ReferenceProof.sorted X)) := by
  funext j
  obtain ⟨r, k, rfl⟩ : ∃ (r : Fin 512) (k : Fin 16), j = ix2 r k := ⟨j 0, j 1, eq_ix2 j⟩
  exact (outAt_apply m ρ X hX hF c r k).trans (Cert.ReferenceProof.reference_apply X r k).symm

end Cert.KernelIdealProof

end
-- ==== Proof.AsPrinted.Arrays.lean ====
/-
# The arguments of the program as printed

The program as printed ends with its argument unchanged and every counter at zero, whatever its words are.
-/
module

public import proofs.«01_k».proof.Proof.AsPrinted.Launch

@[expose] public section

set_option maxRecDepth 1500

noncomputable section

namespace Cert.KernelProof

open Idealize.ShloMosaic Idealize.SL.Sem Cert.Kernel Cert.Kernel.Gen
open TcCoe

variable {F : FTy → Type} [FloatOps F]
variable (m : (ℓ : Loc nD τ sig) → Buf (Elt F) ℓ) (ρ : Dev nD → PrngReg)

/-- Every run of the program as printed: arguments and counters. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

end Cert.KernelProof

end
-- ==== Proof.lean ====
/-
# The certificate

The claims put together: the frames of the kernel as printed and idealized and of the two one-device programs, the
named constant, the kernel's value against the reference, and the reference against the program that keeps ties.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.TiesIdeal
public import proofs.«01_k».proof.Proof.Gen.TiesIdeal.Run
public import proofs.«01_k».proof.Proof.Gen.Pre_four_per_lane_KernelIdeal
public import proofs.«01_k».proof.Proof.Gen.Pre_four_per_lane_ReferenceIdeal
public import proofs.«01_k».proof.Proof.Gen.Pre_tie_free
public import proofs.«01_k».proof.Proof.Value
public import proofs.«01_k».proof.Proof.AsPrinted.Arrays
public import Idealize.ShloMosaic.Lib.Quiescent
public import Idealize.ShloMosaic.Adequacy
public import Idealize.ShloMosaic.Init

@[expose] public section

set_option maxRecDepth 1500

noncomputable section

namespace Cert.Proof

open Idealize.ShloMosaic Idealize.SL.Sem
open TcCoe

/-! ## The frames -/

/-- A reference program declares no semaphore, so its runs end with no counter to clear. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run _ _ _).mono (fun r h => ⟨fun c => (h c).2, sem_eq_zero_of_no_sems (by decide) r.2⟩) (Cert.ReferenceIdeal.Value.run m g)

theorem ties_frame (m : (ℓ : Loc Cert.TiesIdeal.nD Cert.TiesIdeal.τ Cert.TiesIdeal.sig) → Buf (Elt Ideal) ℓ)
    (g : Dev Cert.TiesIdeal.nD → PrngReg) :
    θ_run (Cert.TiesIdeal.defs (F := Ideal)) (onTc (τ := Cert.TiesIdeal.τ) (Cert.TiesIdeal.main (F := Ideal))) ⟨m, fun _ => 0, g⟩
      (fun r => (∀ c : Dev Cert.TiesIdeal.nD, r.2.mem ((c.tc : Thread Cert.TiesIdeal.nD Cert.TiesIdeal.τ).loc Cert.TiesIdeal.main_arg0)
        = m ((c.tc : Thread Cert.TiesIdeal.nD Cert.TiesIdeal.τ).loc Cert.TiesIdeal.main_arg0)) ∧ r.2.sem = fun _ => 0) :=
  (θ_run _ _ _).mono (fun r h => ⟨fun c => (h c).2, sem_eq_zero_of_no_sems (by decide) r.2⟩) (Cert.TiesIdeal.Value.run m g)

theorem kernel_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run _ _ _).mono (fun _ h => ⟨fun c => (h.1 c).2, h.2⟩) (Cert.KernelIdealProof.run_values m g)

/-! ## The values -/

/-- The kernel's result is the reference's. -/
theorem kernel_value : Cert.algebraic_KernelIdeal_ReferenceIdeal_pre_four_per_lane_KernelIdeal := by
  intro m g m' g' hpre hX
  refine ⟨Cert.ReferenceIdeal.Value.res_main_v10 m' 0, ?_, ?_⟩
  · refine (θ_run _ _ _).mono (fun r h c => ⟨(h.1 c).1.trans ?_, (h.1 c).2⟩) (Cert.KernelIdealProof.run_values m g)
    rw [Cert.ReferenceProof.result_eq]
    refine Cert.KernelIdealProof.outAt_eq m g _ hX (fun d => Cert.KernelIdealProof.Spread.fourPerLane_of_fn _ ?_) c
    exact (congrArg (Cert.Pre_four_per_lane_KernelIdeal.fn (F := Ideal)) (hX d)).symm.trans (hpre d)
  · exact (θ_run _ _ _).mono (fun r h => h 0) (Cert.ReferenceIdeal.Value.run m' g')

/-- What the second reference program leaves. -/
theorem ties_run (m : (ℓ : Loc Cert.TiesIdeal.nD Cert.TiesIdeal.τ Cert.TiesIdeal.sig) → Buf (Elt Ideal) ℓ)
    (g : Dev Cert.TiesIdeal.nD → PrngReg) :
    θ_run (Cert.TiesIdeal.defs (F := Ideal)) (onTc (τ := Cert.TiesIdeal.τ) (Cert.TiesIdeal.main (F := Ideal))) ⟨m, fun _ => 0, g⟩
      (fun r => ∀ c : Dev Cert.TiesIdeal.nD, r.2.mem ((c.tc : Thread Cert.TiesIdeal.nD Cert.TiesIdeal.τ).loc Cert.TiesIdeal.main_v3)
          = Cert.ReferenceProof.largest (F := Ideal) (m ((c.tc : Thread Cert.TiesIdeal.nD Cert.TiesIdeal.τ).loc Cert.TiesIdeal.main_arg0))
        ∧ r.2.mem ((c.tc : Thread Cert.TiesIdeal.nD Cert.TiesIdeal.τ).loc Cert.TiesIdeal.main_arg0)
          = m ((c.tc : Thread Cert.TiesIdeal.nD Cert.TiesIdeal.τ).loc Cert.TiesIdeal.main_arg0)) :=
  (θ_run _ _ _).mono (fun r h c => ⟨(h c).1.trans rfl, (h c).2⟩) (Cert.TiesIdeal.Value.run m g)

/-- Without ties the two reference programs agree. -/
theorem ties_value : Cert.algebraic_ReferenceIdeal_TiesIdeal_pre_tie_free := by
  intro m g m' g' hpre hm
  refine ⟨fun c => Cert.ReferenceIdeal.Value.res_main_v10 m c, Cert.ReferenceIdeal.Value.run m g, ?_⟩
  refine (θ_run _ _ _).mono (fun r h c => ⟨(h c).1.trans ?_, (h c).2⟩) (ties_run m' g')
  refine Eq.trans ?_ ((Cert.ReferenceProof.result_eq m c).trans (Cert.ReferenceProof.ties_eq _ (hpre c))).symm
  exact congrArg (Cert.ReferenceProof.largest (F := Ideal)) (hm c)

theorem claim : Cert.Claim := ⟨Cert.Kernel.Gen.facts, Cert.KernelIdeal.Gen.facts, Cert.ReferenceIdeal.Gen.facts, Cert.TiesIdeal.Gen.facts, Cert.Pre_four_per_lane_KernelIdeal.Gen.facts, Cert.Pre_four_per_lane_ReferenceIdeal.Gen.facts, Cert.Pre_tie_free.Gen.facts,
  fun m g _ => Cert.KernelProof.run_frame m g,
  fun m g _ => kernel_frame m g,
  fun m g _ => kernel_frame m g,
  fun m g _ => reference_frame m g,
  fun m g _ => reference_frame m g,
  fun m g _ => reference_frame m g,
  fun m g _ => ties_frame m g,
  fun m g _ => ties_frame m g,
  IdealRules.named_const.statement Cert.KernelIdeal.κ "neg_inf" .f32 0xFF61B1E6#32 ⊥ rfl,
  kernel_value,
  ties_value⟩

end Cert.Proof

end
